-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x4096 : Shape := ⟨2, ![8192, 4096]⟩
abbrev S_ : Shape := ⟨0, ![]⟩
abbrev S16 : Shape := ⟨1, ![16]⟩
abbrev S8192x256 : Shape := ⟨2, ![8192, 256]⟩
abbrev S1 : Shape := ⟨1, ![1]⟩
abbrev S15x512x256 : Shape := ⟨3, ![15, 512, 256]⟩
abbrev S15 : Shape := ⟨1, ![15]⟩
abbrev S512x256 : Shape := ⟨2, ![512, 256]⟩
abbrev S1x512x256 : Shape := ⟨3, ![1, 512, 256]⟩

abbrev nBuf : Space → Nat
  | .hbm => 33
  | .vmem => 5
  | .smem => 1
  | _ => 0

abbrev bufTy : (tb : Table) → Fin (tcTables nBuf tb) → BufTy
  | .hbm, ⟨0, _⟩ => ⟨S512x8192, .bf16⟩
  | .hbm, ⟨1, _⟩ => ⟨S8192x4096, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S_, .i1⟩
  | .hbm, ⟨27, _⟩ => ⟨S16, .i1⟩
  | .hbm, ⟨28, _⟩ => ⟨S16, .i1⟩
  | .hbm, ⟨29, _⟩ => ⟨S16, .i1⟩
  | .hbm, ⟨30, _⟩ => ⟨S16, .i32⟩
  | .hbm, ⟨31, _⟩ => ⟨S16, .i32⟩
  | .hbm, ⟨32, _⟩ => ⟨S8192x256, .bf16⟩
  | .local _ .vmem, ⟨0, _⟩ => ⟨S512x8192, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S15x512x256, .bf16⟩
  | .local _ .smem, ⟨0, _⟩ => ⟨S16, .i32⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v24 : BitVec 32 := Scalar.addi v2 c1_i32_10
  let c16_i32_11 : BitVec 32 := 16#32
  let c0_i32_12 : BitVec 32 := 0#32
  let v25 : BitVec 1 := Scalar.cmpi .eq c16_i32_11 c0_i32_12
  let c1_i32_13 : BitVec 32 := 1#32
  let v26 : BitVec 32 := Scalar.select v25 c1_i32_13 c16_i32_11
  let v27 : BitVec 32 := Scalar.remsi v24 v26
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let c0_i32_14 : BitVec 32 := 0#32
  let v28 : BitVec 1 := Scalar.cmpi .ne v27 c0_i32_14
  let v32 : BitVec 1 := Scalar.andi v31 v28
  let v33 : BitVec 32 := Scalar.addi v27 v26
  let v34 : BitVec 32 := Scalar.select v32 v33 v27
  let c1_i32_18 : BitVec 32 := 1#32
  let v35 : BitVec 32 := Scalar.muli v34 c1_i32_18
  let v36 : BitVec 32 := Scalar.addi c0_i32_19 v35
  v36.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v37 : BitVec 32 := Scalar.addi v2 c2_i32
  let c16_i32_20 : BitVec 32 := 16#32
  let c0_i32_21 : BitVec 32 := 0#32
  let v38 : BitVec 1 := Scalar.cmpi .eq c16_i32_20 c0_i32_21
  let c1_i32_22 : BitVec 32 := 1#32
  let v39 : BitVec 32 := Scalar.select v38 c1_i32_22 c16_i32_20
  let v40 : BitVec 32 := Scalar.remsi v37 v39
  let c0_i32_24 : BitVec 32 := 0#32
  let v42 : BitVec 1 := Scalar.cmpi .slt v40 c0_i32_24
  let c0_i32_25 : BitVec 32 := 0#32
  let v43 : BitVec 1 := Scalar.cmpi .slt v39 c0_i32_25
  let v44 : BitVec 1 := Scalar.xori v42 v43
  let c0_i32_23 : BitVec 32 := 0#32
  let v41 : BitVec 1 := Scalar.cmpi .ne v40 c0_i32_23
  let v45 : BitVec 1 := Scalar.andi v44 v41
  let v46 : BitVec 32 := Scalar.addi v40 v39
  let v47 : BitVec 32 := Scalar.select v45 v46 v40
  let c1_i32_27 : BitVec 32 := 1#32
  let v48 : BitVec 32 := Scalar.muli v47 c1_i32_27
  let v49 : BitVec 32 := Scalar.addi c0_i32_28 v48
  v49.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v50 : BitVec 32 := Scalar.addi v2 c3_i32
  let c16_i32_29 : BitVec 32 := 16#32
  let c0_i32_30 : BitVec 32 := 0#32
  let v51 : BitVec 1 := Scalar.cmpi .eq c16_i32_29 c0_i32_30
  let c1_i32_31 : BitVec 32 := 1#32
  let v52 : BitVec 32 := Scalar.select v51 c1_i32_31 c16_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_36 : BitVec 32 := 1#32
  let v61 : BitVec 32 := Scalar.muli v60 c1_i32_36
  let v62 : BitVec 32 := Scalar.addi c0_i32_37 v61
  v62.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v63 : BitVec 32 := Scalar.addi v2 c4_i32
  let c16_i32_38 : BitVec 32 := 16#32
  let c0_i32_39 : BitVec 32 := 0#32
  let v64 : BitVec 1 := Scalar.cmpi .eq c16_i32_38 c0_i32_39
  let c1_i32_40 : BitVec 32 := 1#32
  let v65 : BitVec 32 := Scalar.select v64 c1_i32_40 c16_i32_38
  let v66 : BitVec 32 := Scalar.remsi v63 v65
  let c0_i32_42 : BitVec 32 := 0#32
  let v68 : BitVec 1 := Scalar.cmpi .slt v66 c0_i32_42
  let c0_i32_43 : BitVec 32 := 0#32
  let v69 : BitVec 1 := Scalar.cmpi .slt v65 c0_i32_43
  let v70 : BitVec 1 := Scalar.xori v68 v69
  let c0_i32_41 : BitVec 32 := 0#32
  let v67 : BitVec 1 := Scalar.cmpi .ne v66 c0_i32_41
  let v71 : BitVec 1 := Scalar.andi v70 v67
  let v72 : BitVec 32 := Scalar.addi v66 v65
  let v73 : BitVec 32 := Scalar.select v71 v72 v66
  let c1_i32_45 : BitVec 32 := 1#32
  let v74 : BitVec 32 := Scalar.muli v73 c1_i32_45
  let v75 : BitVec 32 := Scalar.addi c0_i32_46 v74
  v75.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v76 : BitVec 32 := Scalar.addi v2 c5_i32
  let c16_i32_47 : BitVec 32 := 16#32
  let c0_i32_48 : BitVec 32 := 0#32
  let v77 : BitVec 1 := Scalar.cmpi .eq c16_i32_47 c0_i32_48
  let c1_i32_49 : BitVec 32 := 1#32
  let v78 : BitVec 32 := Scalar.select v77 c1_i32_49 c16_i32_47
  let v79 : BitVec 32 := Scalar.remsi v76 v78
  let c0_i32_51 : BitVec 32 := 0#32
  let v81 : BitVec 1 := Scalar.cmpi .slt v79 c0_i32_51
  let c0_i32_52 : BitVec 32 := 0#32
  let v82 : BitVec 1 := Scalar.cmpi .slt v78 c0_i32_52
  let v83 : BitVec 1 := Scalar.xori v81 v82
  let c0_i32_50 : BitVec 32 := 0#32
  let v80 : BitVec 1 := Scalar.cmpi .ne v79 c0_i32_50
  let v84 : BitVec 1 := Scalar.andi v83 v80
  let v85 : BitVec 32 := Scalar.addi v79 v78
  let v86 : BitVec 32 := Scalar.select v84 v85 v79
  let c1_i32_54 : BitVec 32 := 1#32
  let v87 : BitVec 32 := Scalar.muli v86 c1_i32_54
  let v88 : BitVec 32 := Scalar.addi c0_i32_55 v87
  v88.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v89 : BitVec 32 := Scalar.addi v2 c6_i32
  let c16_i32_56 : BitVec 32 := 16#32
  let c0_i32_57 : BitVec 32 := 0#32
  let v90 : BitVec 1 := Scalar.cmpi .eq c16_i32_56 c0_i32_57
  let c1_i32_58 : BitVec 32 := 1#32
  let v91 : BitVec 32 := Scalar.select v90 c1_i32_58 c16_i32_56
  let v92 : BitVec 32 := Scalar.remsi v89 v91
  let c0_i32_60 : BitVec 32 := 0#32
  let v94 : BitVec 1 := Scalar.cmpi .slt v92 c0_i32_60
  let c0_i32_61 : BitVec 32 := 0#32
  let v95 : BitVec 1 := Scalar.cmpi .slt v91 c0_i32_61
  let v96 : BitVec 1 := Scalar.xori v94 v95
  let c0_i32_59 : BitVec 32 := 0#32
  let v93 : BitVec 1 := Scalar.cmpi .ne v92 c0_i32_59
  let v97 : BitVec 1 := Scalar.andi v96 v93
  let v98 : BitVec 32 := Scalar.addi v92 v91
  let v99 : BitVec 32 := Scalar.select v97 v98 v92
  let c1_i32_63 : BitVec 32 := 1#32
  let v100 : BitVec 32 := Scalar.muli v99 c1_i32_63
  let v101 : BitVec 32 := Scalar.addi c0_i32_64 v100
  v101.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v102 : BitVec 32 := Scalar.addi v2 c7_i32
  let c16_i32_65 : BitVec 32 := 16#32
  let c0_i32_66 : BitVec 32 := 0#32
  let v103 : BitVec 1 := Scalar.cmpi .eq c16_i32_65 c0_i32_66
  let c1_i32_67 : BitVec 32 := 1#32
  let v104 : BitVec 32 := Scalar.select v103 c1_i32_67 c16_i32_65
  let v105 : BitVec 32 := Scalar.remsi v102 v104
  let c0_i32_69 : BitVec 32 := 0#32
  let v107 : BitVec 1 := Scalar.cmpi .slt v105 c0_i32_69
  let c0_i32_70 : BitVec 32 := 0#32
  let v108 : BitVec 1 := Scalar.cmpi .slt v104 c0_i32_70
  let v109 : BitVec 1 := Scalar.xori v107 v108
  let c0_i32_68 : BitVec 32 := 0#32
  let v106 : BitVec 1 := Scalar.cmpi .ne v105 c0_i32_68
  let v110 : BitVec 1 := Scalar.andi v109 v106
  let v111 : BitVec 32 := Scalar.addi v105 v104
  let v112 : BitVec 32 := Scalar.select v110 v111 v105
  let c1_i32_72 : BitVec 32 := 1#32
  let v113 : BitVec 32 := Scalar.muli v112 c1_i32_72
  let v114 : BitVec 32 := Scalar.addi c0_i32_73 v113
  v114.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v115 : BitVec 32 := Scalar.addi v2 c8_i32
  let c16_i32_74 : BitVec 32 := 16#32
  let c0_i32_75 : BitVec 32 := 0#32
  let v116 : BitVec 1 := Scalar.cmpi .eq c16_i32_74 c0_i32_75
  let c1_i32_76 : BitVec 32 := 1#32
  let v117 : BitVec 32 := Scalar.select v116 c1_i32_76 c16_i32_74
  let v118 : BitVec 32 := Scalar.remsi v115 v117
  let c0_i32_78 : BitVec 32 := 0#32
  let v120 : BitVec 1 := Scalar.cmpi .slt v118 c0_i32_78
  let c0_i32_79 : BitVec 32 := 0#32
  let v121 : BitVec 1 := Scalar.cmpi .slt v117 c0_i32_79
  let v122 : BitVec 1 := Scalar.xori v120 v121
  let c0_i32_77 : BitVec 32 := 0#32
  let v119 : BitVec 1 := Scalar.cmpi .ne v118 c0_i32_77
  let v123 : BitVec 1 := Scalar.andi v122 v119
  let v124 : BitVec 32 := Scalar.addi v118 v117
  let v125 : BitVec 32 := Scalar.select v123 v124 v118
  let c1_i32_81 : BitVec 32 := 1#32
  let v126 : BitVec 32 := Scalar.muli v125 c1_i32_81
  let v127 : BitVec 32 := Scalar.addi c0_i32_82 v126
  v127.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v128 : BitVec 32 := Scalar.addi v2 c9_i32
  let c16_i32_83 : BitVec 32 := 16#32
  let c0_i32_84 : BitVec 32 := 0#32
  let v129 : BitVec 1 := Scalar.cmpi .eq c16_i32_83 c0_i32_84
  let c1_i32_85 : BitVec 32 := 1#32
  let v130 : BitVec 32 := Scalar.select v129 c1_i32_85 c16_i32_83
  let v131 : BitVec 32 := Scalar.remsi v128 v130
  let c0_i32_87 : BitVec 32 := 0#32
  let v133 : BitVec 1 := Scalar.cmpi .slt v131 c0_i32_87
  let c0_i32_88 : BitVec 32 := 0#32
  let v134 : BitVec 1 := Scalar.cmpi .slt v130 c0_i32_88
  let v135 : BitVec 1 := Scalar.xori v133 v134
  let c0_i32_86 : BitVec 32 := 0#32
  let v132 : BitVec 1 := Scalar.cmpi .ne v131 c0_i32_86
  let v136 : BitVec 1 := Scalar.andi v135 v132
  let v137 : BitVec 32 := Scalar.addi v131 v130
  let v138 : BitVec 32 := Scalar.select v136 v137 v131
  let c1_i32_90 : BitVec 32 := 1#32
  let v139 : BitVec 32 := Scalar.muli v138 c1_i32_90
  let v140 : BitVec 32 := Scalar.addi c0_i32_91 v139
  v140.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v141 : BitVec 32 := Scalar.addi v2 c10_i32
  let c16_i32_92 : BitVec 32 := 16#32
  let c0_i32_93 : BitVec 32 := 0#32
  let v142 : BitVec 1 := Scalar.cmpi .eq c16_i32_92 c0_i32_93
  let c1_i32_94 : BitVec 32 := 1#32
  let v143 : BitVec 32 := Scalar.select v142 c1_i32_94 c16_i32_92
  let v144 : BitVec 32 := Scalar.remsi v141 v143
  let c0_i32_96 : BitVec 32 := 0#32
  let v146 : BitVec 1 := Scalar.cmpi .slt v144 c0_i32_96
  let c0_i32_97 : BitVec 32 := 0#32
  let v147 : BitVec 1 := Scalar.cmpi .slt v143 c0_i32_97
  let v148 : BitVec 1 := Scalar.xori v146 v147
  let c0_i32_95 : BitVec 32 := 0#32
  let v145 : BitVec 1 := Scalar.cmpi .ne v144 c0_i32_95
  let v149 : BitVec 1 := Scalar.andi v148 v145
  let v150 : BitVec 32 := Scalar.addi v144 v143
  let v151 : BitVec 32 := Scalar.select v149 v150 v144
  let c1_i32_99 : BitVec 32 := 1#32
  let v152 : BitVec 32 := Scalar.muli v151 c1_i32_99
  let v153 : BitVec 32 := Scalar.addi c0_i32_100 v152
  v153.toNat
def k0_dev11 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v154 : BitVec 32 := Scalar.addi v2 c11_i32
  let c16_i32_101 : BitVec 32 := 16#32
  let c0_i32_102 : BitVec 32 := 0#32
  let v155 : BitVec 1 := Scalar.cmpi .eq c16_i32_101 c0_i32_102
  let c1_i32_103 : BitVec 32 := 1#32
  let v156 : BitVec 32 := Scalar.select v155 c1_i32_103 c16_i32_101
  let v157 : BitVec 32 := Scalar.remsi v154 v156
  let c0_i32_105 : BitVec 32 := 0#32
  let v159 : BitVec 1 := Scalar.cmpi .slt v157 c0_i32_105
  let c0_i32_106 : BitVec 32 := 0#32
  let v160 : BitVec 1 := Scalar.cmpi .slt v156 c0_i32_106
  let v161 : BitVec 1 := Scalar.xori v159 v160
  let c0_i32_104 : BitVec 32 := 0#32
  let v158 : BitVec 1 := Scalar.cmpi .ne v157 c0_i32_104
  let v162 : BitVec 1 := Scalar.andi v161 v158
  let v163 : BitVec 32 := Scalar.addi v157 v156
  let v164 : BitVec 32 := Scalar.select v162 v163 v157
  let c1_i32_108 : BitVec 32 := 1#32
  let v165 : BitVec 32 := Scalar.muli v164 c1_i32_108
  let v166 : BitVec 32 := Scalar.addi c0_i32_109 v165
  v166.toNat
def k0_dev12 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v167 : BitVec 32 := Scalar.addi v2 c12_i32
  let c16_i32_110 : BitVec 32 := 16#32
  let c0_i32_111 : BitVec 32 := 0#32
  let v168 : BitVec 1 := Scalar.cmpi .eq c16_i32_110 c0_i32_111
  let c1_i32_112 : BitVec 32 := 1#32
  let v169 : BitVec 32 := Scalar.select v168 c1_i32_112 c16_i32_110
  let v170 : BitVec 32 := Scalar.remsi v167 v169
  let c0_i32_114 : BitVec 32 := 0#32
  let v172 : BitVec 1 := Scalar.cmpi .slt v170 c0_i32_114
  let c0_i32_115 : BitVec 32 := 0#32
  let v173 : BitVec 1 := Scalar.cmpi .slt v169 c0_i32_115
  let v174 : BitVec 1 := Scalar.xori v172 v173
  let c0_i32_113 : BitVec 32 := 0#32
  let v171 : BitVec 1 := Scalar.cmpi .ne v170 c0_i32_113
  let v175 : BitVec 1 := Scalar.andi v174 v171
  let v176 : BitVec 32 := Scalar.addi v170 v169
  let v177 : BitVec 32 := Scalar.select v175 v176 v170
  let c1_i32_117 : BitVec 32 := 1#32
  let v178 : BitVec 32 := Scalar.muli v177 c1_i32_117
  let v179 : BitVec 32 := Scalar.addi c0_i32_118 v178
  v179.toNat
def k0_dev13 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v180 : BitVec 32 := Scalar.addi v2 c13_i32
  let c16_i32_119 : BitVec 32 := 16#32
  let c0_i32_120 : BitVec 32 := 0#32
  let v181 : BitVec 1 := Scalar.cmpi .eq c16_i32_119 c0_i32_120
  let c1_i32_121 : BitVec 32 := 1#32
  let v182 : BitVec 32 := Scalar.select v181 c1_i32_121 c16_i32_119
  let v183 : BitVec 32 := Scalar.remsi v180 v182
  let c0_i32_123 : BitVec 32 := 0#32
  let v185 : BitVec 1 := Scalar.cmpi .slt v183 c0_i32_123
  let c0_i32_124 : BitVec 32 := 0#32
  let v186 : BitVec 1 := Scalar.cmpi .slt v182 c0_i32_124
  let v187 : BitVec 1 := Scalar.xori v185 v186
  let c0_i32_122 : BitVec 32 := 0#32
  let v184 : BitVec 1 := Scalar.cmpi .ne v183 c0_i32_122
  let v188 : BitVec 1 := Scalar.andi v187 v184
  let v189 : BitVec 32 := Scalar.addi v183 v182
  let v190 : BitVec 32 := Scalar.select v188 v189 v183
  let c1_i32_126 : BitVec 32 := 1#32
  let v191 : BitVec 32 := Scalar.muli v190 c1_i32_126
  let v192 : BitVec 32 := Scalar.addi c0_i32_127 v191
  v192.toNat
def k0_dev14 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v193 : BitVec 32 := Scalar.addi v2 c14_i32
  let c16_i32_128 : BitVec 32 := 16#32
  let c0_i32_129 : BitVec 32 := 0#32
  let v194 : BitVec 1 := Scalar.cmpi .eq c16_i32_128 c0_i32_129
  let c1_i32_130 : BitVec 32 := 1#32
  let v195 : BitVec 32 := Scalar.select v194 c1_i32_130 c16_i32_128
  let v196 : BitVec 32 := Scalar.remsi v193 v195
  let c0_i32_132 : BitVec 32 := 0#32
  let v198 : BitVec 1 := Scalar.cmpi .slt v196 c0_i32_132
  let c0_i32_133 : BitVec 32 := 0#32
  let v199 : BitVec 1 := Scalar.cmpi .slt v195 c0_i32_133
  let v200 : BitVec 1 := Scalar.xori v198 v199
  let c0_i32_131 : BitVec 32 := 0#32
  let v197 : BitVec 1 := Scalar.cmpi .ne v196 c0_i32_131
  let v201 : BitVec 1 := Scalar.andi v200 v197
  let v202 : BitVec 32 := Scalar.addi v196 v195
  let v203 : BitVec 32 := Scalar.select v201 v202 v196
  let c1_i32_135 : BitVec 32 := 1#32
  let v204 : BitVec 32 := Scalar.muli v203 c1_i32_135
  let v205 : BitVec 32 := Scalar.addi c0_i32_136 v204
  v205.toNat
def k0_dev15 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_137 : BitVec 32 := 15#32
  let v206 : BitVec 32 := Scalar.addi v2 c15_i32_137
  let c16_i32_138 : BitVec 32 := 16#32
  let c0_i32_139 : BitVec 32 := 0#32
  let v207 : BitVec 1 := Scalar.cmpi .eq c16_i32_138 c0_i32_139
  let c1_i32_140 : BitVec 32 := 1#32
  let v208 : BitVec 32 := Scalar.select v207 c1_i32_140 c16_i32_138
  let v209 : BitVec 32 := Scalar.remsi v206 v208
  let c0_i32_142 : BitVec 32 := 0#32
  let v211 : BitVec 1 := Scalar.cmpi .slt v209 c0_i32_142
  let c0_i32_143 : BitVec 32 := 0#32
  let v212 : BitVec 1 := Scalar.cmpi .slt v208 c0_i32_143
  let v213 : BitVec 1 := Scalar.xori v211 v212
  let c0_i32_141 : BitVec 32 := 0#32
  let v210 : BitVec 1 := Scalar.cmpi .ne v209 c0_i32_141
  let v214 : BitVec 1 := Scalar.andi v213 v210
  let v215 : BitVec 32 := Scalar.addi v209 v208
  let v216 : BitVec 32 := Scalar.select v214 v215 v209
  let c1_i32_145 : BitVec 32 := 1#32
  let v217 : BitVec 32 := Scalar.muli v216 c1_i32_145
  let v218 : BitVec 32 := Scalar.addi c0_i32_146 v217
  v218.toNat
def k0_cond2 (i : grid0.Coords) : BitVec 1 :=
  let arg0 : BitVec 32 := BitVec.ofNat 32 (i 0).val
  let c0_i32_5 : BitVec 32 := 0#32
  let v14 : BitVec 1 := Scalar.cmpi .eq arg0 c0_i32_5
  let v15 : BitVec 32 := Scalar.extui v14
  let c0_i32_6 : BitVec 32 := 0#32
  let v16 : BitVec 1 := Scalar.cmpi .ne v15 c0_i32_6
  v16

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v23 : BitVec 32 := Scalar.muli v2 c512_i32
  let v24 : Index := Scalar.indexCast v23
  let c0_10 : Index := 0#32
  ![v24.toNat, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let v18 : BitVec 32 := Scalar.extui v17
  let c0_i32_8 : BitVec 32 := 0#32
  let v19 : BitVec 1 := Scalar.cmpi .ne v18 c0_i32_8
  v19

def k0_off3 (i : grid0.Coords) : Fin 3 → Nat :=
  let arg0 : BitVec 32 := BitVec.ofNat 32 (i 0).val
  let c1_i32_10 : BitVec 32 := 1#32
  let v23 : BitVec 32 := Scalar.subi arg0 c1_i32_10
  let v24 : Index := Scalar.indexCast v23
  let c0_11 : Index := 0#32
  let c0_12 : Index := 0#32
  ![v24.toNat, 0, 0]
def k0_off4 (i : grid0.Coords) : Fin 1 → Nat :=
  let arg0 : BitVec 32 := BitVec.ofNat 32 (i 0).val
  let v29 : Index := Scalar.indexCast arg0
  ![v29.toNat]
def k0_off5 (i : grid0.Coords) : Fin 1 → Nat :=
  let arg0 : BitVec 32 := BitVec.ofNat 32 (i 0).val
  let c1_i32_10 : BitVec 32 := 1#32
  let v23 : BitVec 32 := Scalar.subi arg0 c1_i32_10
  ![v23.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v28 : BitVec 32 := Scalar.muli v2 c512_i32
  let c0_i32_15 : BitVec 32 := 0#32
  ![v28.toNat, 0]
def k0_off7 (i : grid0.Coords) : Fin 3 → Nat :=
  let arg0 : BitVec 32 := BitVec.ofNat 32 (i 0).val
  let c1_i32_10 : BitVec 32 := 1#32
  let v23 : BitVec 32 := Scalar.subi arg0 c1_i32_10
  let c0_i32_16 : BitVec 32 := 0#32
  let c0_i32_17 : BitVec 32 := 0#32
  ![v23.toNat, 0, 0]
def k0_dev16 (v30 : BitVec 32) : Nat :=
  let c0_i32_14 : BitVec 32 := 0#32
  let c1_i32_13 : BitVec 32 := 1#32
  let v31 : BitVec 32 := Scalar.muli v30 c1_i32_13
  let v32 : BitVec 32 := Scalar.addi c0_i32_14 v31
  v32.toNat

def k0_chk1 (i : grid0.Coords) (v30 : BitVec 32) : Prop :=
  (∀ (k0_h3 : k0_cond3 i = 1#1), (k0_dev16 v30) < nD)
theorem k0_dev16_lt : ∀ (i : grid0.Coords) (v30 : BitVec 32) (k0_hw1 : k0_chk1 i v30), ∀ (k0_h3 : k0_cond3 i = 1#1), (k0_dev16 v30) < nD := fun i v30 k0_hw1 k0_h3 => k0_hw1 k0_h3

def k0_cond4 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KernelIdeal.Protocol.lean ====
/-
  The all-to-all's protocol. Device `c` names its fifteen peers by a number `t`: `nxt c t` is the device `t + 1` places
  after `c`, and `nxt (nxt c t) (rev t) = c`. Every device has one barrier cell (fifteen unit duties, duty `t` paid by the
  device `c` with `nxt c t` = the owner), fifteen send cells and fifteen receive cells (one duty each). A barrier unit hands
  its payer's row block of the result buffer to the owner, who will write it, and the fact that the payer's receive cell is
  open; a receive cell's duty hands the row block back at the payer's product; a send cell's duty hands the slot of the
  scratch buffer back. Here: the cells, the schedule with its projections, what a device owes and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Memref
public import Idealize.ShloMosaic.PureOps

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

/-- The device `t + 1` places after `c`. -/
def nxt (c : Dev nD) (t : Fin 15) : Dev nD := ⟨(c.val + t.val + 1) % 16, Nat.mod_lt _ (by decide)⟩
/-- The number of the way back. -/
def rev (t : Fin 15) : Fin 15 := ⟨14 - t.val, by omega⟩

theorem rev_rev (t : Fin 15) : rev (rev t) = t := by
  apply Fin.ext; show 14 - (14 - t.val) = t.val; omega
theorem nxt_rev (c : Dev nD) (t : Fin 15) : nxt (nxt c t) (rev t) = c := by
  apply Fin.ext; have hc16 : c.val < 16 := c.isLt; have := t.isLt
  show ((c.val + t.val + 1) % 16 + (14 - t.val) + 1) % 16 = c.val; omega
theorem nxt_rev' (c : Dev nD) (t : Fin 15) : nxt (nxt c (rev t)) t = c := by
  have h := nxt_rev c (rev t); rwa [rev_rev] at h
theorem nxt_ne (c : Dev nD) (t : Fin 15) : nxt c t ≠ c := by
  intro h; have h' := congrArg Fin.val h; have hc16 : c.val < 16 := c.isLt; have := t.isLt
  change (c.val + t.val + 1) % 16 = c.val at h'; omega
theorem nxt_inj (c : Dev nD) {t t' : Fin 15} (h : nxt c t = nxt c t') : t = t' := by
  have h' := congrArg Fin.val h; apply Fin.ext; have hc16 : c.val < 16 := c.isLt; have := t.isLt; have := t'.isLt
  change (c.val + t.val + 1) % 16 = (c.val + t'.val + 1) % 16 at h'; omega
theorem nxt_surj (c b : Dev nD) (h : b ≠ c) : ∃ t, nxt c t = b := by
  revert c b; decide

/-- Numbers reversed. -/
def revEquiv : Fin 15 ≃ Fin 15 := ⟨rev, rev, rev_rev, rev_rev⟩
/-- Payer and number against owner and number. -/
def payEquiv : Dev nD × Fin 15 ≃ Dev nD × Fin 15 :=
  ⟨fun p => (nxt p.1 p.2, p.2), fun p => (nxt p.1 (rev p.2), p.2),
    fun p => Prod.ext (nxt_rev p.1 p.2) rfl, fun p => Prod.ext (nxt_rev' p.1 p.2) rfl⟩

/-! ## The resource algebra: the pipeline library's copy, the protocol's, the local transfers' -/

abbrev UR : Type := URounds (GSem nD τ sig) Unit
abbrev UB : Type := URounds (GSem nD τ sig) (Fin 15)
abbrev UU : Type := UR × (UB × Counters)

local notation "𝕄" => MT nD τ sig Unit (Elt F) ℕ UU ℕ

def EP : Emb UR (MT nD τ sig Unit (Elt F) ℕ UU ℕ) :=
  (Emb.inl : Emb UR UU).trans (uEmb (nD := nD) (sig := sig) (Ix := Unit) (Val := Elt F) (Name := ℕ) (U := UU) (Lvl := ℕ)).toEmb
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance EP_lands : (EP : Emb UR 𝕄).LandsIn (upEmb : UEmb _ 𝕄) := by unfold EP; infer_instance
instance ER_lands : (ER : Emb UB 𝕄).LandsIn (upEmb : UEmb _ 𝕄) := by unfold ER; infer_instance

abbrev EC : UEmb Counters (MT nD τ sig Unit (Elt F) ℕ UU ℕ) := countersEmb

theorem own_split (a : UR) (b : UB) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op ((b, 1) : UB × Counters))))

/-! ## Cells -/

abbrev sendS (t : Fin 15) : DmaSem sig := ⟨4 + t.val, by have := t.isLt; show 4 + t.val < 34; omega⟩
abbrev recvS (t : Fin 15) : DmaSem sig := ⟨19 + t.val, by have := t.isLt; show 19 + t.val < 34; omega⟩
abbrev barCell (c : Dev nD) : GSem nD τ sig := ((c : Thread nD τ), .reg barrier0)
abbrev sendCell (c : Dev nD) (t : Fin 15) : GSem nD τ sig := ((c : Thread nD τ), .dma (sendS t))
abbrev recvCell (c : Dev nD) (t : Fin 15) : GSem nD τ sig := ((c : Thread nD τ), .dma (recvS t))

theorem barCell_inj {c c' : Dev nD} (h : barCell c = barCell c') : c = c' := congrArg (fun g : GSem nD τ sig => g.1.1) h
theorem recvCell_inj {c c' : Dev nD} {t t' : Fin 15} (h : recvCell c t = recvCell c' t') : c = c' ∧ t = t' := by
  refine ⟨congrArg (fun g : GSem nD τ sig => g.1.1) h, ?_⟩
  have h2 : (SemLoc.dma (recvS t) : SemLoc sig) = .dma (recvS t') := congrArg (fun g : GSem nD τ sig => g.2) h
  have h3 := congrArg Fin.val (SemLoc.dma.inj h2)
  exact Fin.ext (by change 19 + t.val = 19 + t'.val at h3; omega)
theorem sendCell_inj {c c' : Dev nD} {t t' : Fin 15} (h : sendCell c t = sendCell c' t') : c = c' ∧ t = t' := by
  refine ⟨congrArg (fun g : GSem nD τ sig => g.1.1) h, ?_⟩
  have h2 : (SemLoc.dma (sendS t) : SemLoc sig) = .dma (sendS t') := congrArg (fun g : GSem nD τ sig => g.2) h
  have h3 := congrArg Fin.val (SemLoc.dma.inj h2)
  exact Fin.ext (by change 4 + t.val = 4 + t'.val at h3; omega)

/-! ## Buffers: the result buffer's row blocks, the scratch buffer's slots -/

abbrev outM : Memref sig .tc .vmem S8192x256 .bf16 := Memref.whole cc0_stg2_0
abbrev comM : Memref sig .tc .vmem S15x512x256 .bf16 := Memref.whole cc0_scratch0

theorem row_inb (b : Dev nD) : ∀ a, (![512 * b.val, 0] : Fin 2 → Nat) a + S512x256.size a ≤ S8192x256.size a := by
  have hb16 : b.val < 16 := b.isLt
  intro a; match a with
  | 0 => show 512 * b.val + 512 ≤ 8192; omega
  | 1 => show 0 + 256 ≤ 256; omega
theorem slot_inb (t : Fin 15) : ∀ a, (![t.val, 0, 0] : Fin 3 → Nat) a + S1x512x256.size a ≤ S15x512x256.size a := by
  have := t.isLt
  intro a; match a with
  | 0 => show t.val + 1 ≤ 15; omega
  | 1 => show 0 + 512 ≤ 512; omega
  | 2 => show 0 + 256 ≤ 256; omega

/-- The rows device `b`'s product takes in every device's result. -/
abbrev rowR (b : Dev nD) : Rect S8192x256 := Rect.unit (s := S8192x256) ![512 * b.val, 0] S512x256.size (row_inb b)
abbrev slotR (t : Fin 15) : Rect S15x512x256 := Rect.unit (s := S15x512x256) ![t.val, 0, 0] S1x512x256.size (slot_inb t)

abbrev rowM (b : Dev nD) : Memref sig .tc .vmem S512x256 .bf16 := outM.slice (rowR b) (fun _ => rfl)
abbrev slotM (t : Fin 15) : Memref sig .tc .vmem S1x512x256 .bf16 := comM.slice (slotR t) (fun _ => rfl)

/-- The units a peer's transfer credits. -/
abbrev N : ℕ := (rowM 0).view.dmaCredit
theorem N_pos : 0 < N := View.dmaCredit_pos _ (by decide)

/-- Device `d`'s row block `b`, at contents not chosen; at `Y`. -/
def rowAny (d b : Dev nD) : sProp 𝕄 := iprop(∃ f, (rowM b).view.loc (d : Thread nD τ) ↦[(rowM b).view.set]{fullShare} f)
def rowAt (d b : Dev nD) (Y : Vec F S512x256 .bf16) : sProp 𝕄 := owns (d : Thread nD τ) (rowM b) fullShare Y
/-- Device `c`'s slot `t` of the scratch buffer, at contents not chosen. -/
def slotAny (c : Dev nD) (t : Fin 15) : sProp 𝕄 := iprop(∃ f, (slotM t).view.loc (c : Thread nD τ) ↦[(slotM t).view.set]{fullShare} f)

instance rowAny_storable (d b : Dev nD) : BI.Storable (upEmb : UEmb _ 𝕄) (rowAny (F := F) d b) := by unfold rowAny; infer_instance
instance rowAt_storable (d b : Dev nD) (Y : Vec F S512x256 .bf16) : BI.Storable (upEmb : UEmb _ 𝕄) (rowAt d b Y) := by unfold rowAt; infer_instance
instance slotAny_storable (c : Dev nD) (t : Fin 15) : BI.Storable (upEmb : UEmb _ 𝕄) (slotAny (F := F) c t) := by unfold slotAny; infer_instance

/-! ## The schedule -/

/-- Every device's product block by destination: `Y s d` is what `s` computes for `d`. -/
abbrev Prods (F : FTy → Type) [FloatOps F] : Type := Dev nD → Dev nD → Vec F S512x256 .bf16

variable (Y : Prods F)

/-- A barrier unit: the payer's row block for the owner, and that the payer's receive cell is open. -/
def barPay (c : Dev nD) (t : Fin 15) : sProp 𝕄 :=
  iprop(rowAny (nxt c (rev t)) c ∗ reached ER (recvCell (nxt c (rev t)) (rev t)) 0)
/-- A landing: the row block of the payer, at its product. -/
def recvPay (d : Dev nD) (t : Fin 15) : sProp 𝕄 := rowAt d (nxt d (rev t)) (Y (nxt d (rev t)) d)

/-- What the cell `sm` of device `c` hands its owner for duty `t`. -/
def payOf (c : Dev nD) (t : Fin 15) : SemLoc sig → sProp 𝕄
  | .reg _ => barPay c t
  | .dma s => if h : 19 ≤ s.val then recvPay Y c ⟨s.val - 19, by have : s.val < 34 := s.isLt; omega⟩
      else if h' : 4 ≤ s.val then slotAny c ⟨s.val - 4, by omega⟩ else iprop(emp)
/-- The duties of one cell of a device: all fifteen of the barrier, the first of a send or receive cell. -/
def dutiesOf : SemLoc sig → Finset (Fin 15)
  | .reg _ => Finset.univ
  | .dma s => if 4 ≤ s.val then {0} else ∅
def amountOf : SemLoc sig → ℕ
  | .reg _ => 1
  | .dma _ => N

/-- One round on every cell. -/
def sched : Rounds.Schedule (GSem nD τ sig) (Fin 15) 𝕄 where
  duties g r := if r = 0 ∧ g.1.2 = .tc then dutiesOf g.2 else ∅
  unitless _ := False
  amount g _ _ := amountOf g.2
  payload g _ t := payOf Y g.1.1 t g.2
  amount_pos g _ _ _ := by
    rcases g with ⟨_, s | s⟩
    · exact Nat.one_pos
    · exact N_pos

instance sched_storable (g : GSem nD τ sig) (r : ℕ) (t : Fin 15) :
    BI.Storable (upEmb : UEmb _ 𝕄) ((sched Y).payload g r t) := by
  show BI.Storable upEmb (payOf Y g.1.1 t g.2)
  rcases g with ⟨_, s | s⟩
  · show BI.Storable upEmb (barPay _ t); unfold barPay; infer_instance
  · unfold payOf recvPay; dsimp only; (repeat' split) <;> infer_instance

section Projections

variable (c : Dev nD) (t : Fin 15)

theorem duties_bar : (sched Y).duties (barCell c) 0 = Finset.univ := by
  dsimp only [sched]; exact if_pos ⟨rfl, rfl⟩
theorem duties_send : (sched Y).duties (sendCell c t) 0 = {0} := by
  dsimp only [sched]; rw [if_pos ⟨rfl, rfl⟩]; exact if_pos (Nat.le_add_right 4 t.val)
theorem duties_recv : (sched Y).duties (recvCell c t) 0 = {0} := by
  dsimp only [sched]; rw [if_pos ⟨rfl, rfl⟩]; exact if_pos (by show 4 ≤ 19 + t.val; omega)
theorem duties_later (g : GSem nD τ sig) : ∀ r, 1 ≤ r → (sched Y).duties g r = ∅ :=
  fun r hr => by dsimp only [sched]; exact if_neg fun h => by have := h.1; omega

theorem amount_bar (r : ℕ) (u : Fin 15) : (sched Y).amount (barCell c) r u = 1 := rfl
theorem amount_send (r : ℕ) (u : Fin 15) : (sched Y).amount (sendCell c t) r u = N := rfl
theorem amount_recv (r : ℕ) (u : Fin 15) : (sched Y).amount (recvCell c t) r u = N := rfl

theorem expect_bar : (sched Y).expect (barCell c) 0 = 15 := by
  unfold Schedule.expect Schedule.amountOf; rw [duties_bar]; rfl
theorem expect_send : (sched Y).expect (sendCell c t) 0 = N := by
  unfold Schedule.expect Schedule.amountOf; rw [duties_send, Finset.sum_singleton, amount_send]
theorem expect_recv : (sched Y).expect (recvCell c t) 0 = N := by
  unfold Schedule.expect Schedule.amountOf; rw [duties_recv, Finset.sum_singleton, amount_recv]

theorem payload_bar (r : ℕ) (u : Fin 15) : (sched Y).payload (barCell c) r u = barPay c u := rfl
theorem payload_send (r : ℕ) (u : Fin 15) : (sched Y).payload (sendCell c t) r u = slotAny c t := by
  show payOf Y c u (.dma (sendS t)) = _
  have h : ∀ e, (⟨4 + t.val - 4, e⟩ : Fin 15) = t := fun e => Fin.ext (by show 4 + t.val - 4 = t.val; omega)
  have := t.isLt
  dsimp only [payOf]
  rw [dif_neg (by show ¬ 19 ≤ 4 + t.val; omega), dif_pos (by show 4 ≤ 4 + t.val; omega), h]
theorem payload_recv (r : ℕ) (u : Fin 15) : (sched Y).payload (recvCell c t) r u = recvPay Y c t := by
  show payOf Y c u (.dma (recvS t)) = _
  have h : ∀ e, (⟨19 + t.val - 19, e⟩ : Fin 15) = t := fun e => Fin.ext (by show 19 + t.val - 19 = t.val; omega)
  dsimp only [payOf]
  rw [dif_pos (by show 19 ≤ 19 + t.val; omega), h]

theorem rest_bar : bigSep ((sched Y).duties (barCell c) 0 \ ∅) (fun u => (sched Y).payload (barCell c) 0 u)
    = bigSep Finset.univ (barPay (F := F) c) := by
  rw [Finset.sdiff_empty, duties_bar]; rfl
theorem rest_send : bigSep ((sched Y).duties (sendCell c t) 0 \ ∅) (fun u => (sched Y).payload (sendCell c t) 0 u) = slotAny c t := by
  rw [Finset.sdiff_empty, duties_send, bigSep_singleton, payload_send]
theorem rest_recv : bigSep ((sched Y).duties (recvCell c t) 0 \ ∅) (fun u => (sched Y).payload (recvCell c t) 0 u) = recvPay Y c t := by
  rw [Finset.sdiff_empty, duties_recv, bigSep_singleton, payload_recv]

end Projections

/-! ## What a device owes; the levels -/

/-- The barrier units from number `a` on and the landings from number `b` on. -/
def owed (c : Dev nD) (a b : ℕ) : CellTallies nD τ sig Unit :=
  (∑ t ∈ Finset.univ.filter (fun t : Fin 15 => a ≤ t.val), tallyAt (barCell (nxt c t)) () 1)
    + ∑ t ∈ Finset.univ.filter (fun t : Fin 15 => b ≤ t.val), tallyAt (recvCell (nxt c t) t) () N

theorem filter_peel (t : Fin 15) :
    Finset.univ.filter (fun u : Fin 15 => t.val ≤ u.val) = insert t (Finset.univ.filter (fun u : Fin 15 => t.val + 1 ≤ u.val)) := by
  revert t; decide
theorem not_mem_later (t : Fin 15) : t ∉ Finset.univ.filter (fun u : Fin 15 => t.val + 1 ≤ u.val) := by
  revert t; decide
theorem filter_done : Finset.univ.filter (fun u : Fin 15 => 15 ≤ u.val) = ∅ := by decide

theorem owed_bar (c : Dev nD) (t : Fin 15) (b : ℕ) :
    owed c t.val b = owed c (t.val + 1) b + tallyAt (barCell (nxt c t)) () 1 := by
  unfold owed; rw [filter_peel t, Finset.sum_insert (not_mem_later t), add_assoc, add_comm (tallyAt _ _ _)]
theorem owed_recv (c : Dev nD) (a : ℕ) (t : Fin 15) :
    owed c a t.val = owed c a (t.val + 1) + tallyAt (recvCell (nxt c t) t) () N := by
  unfold owed; rw [filter_peel t, Finset.sum_insert (not_mem_later t), add_assoc, add_comm (tallyAt (recvCell _ _) _ _)]
theorem owed_none (c : Dev nD) : owed c 15 15 = 0 := by
  unfold owed; rw [filter_done, Finset.sum_empty, Finset.sum_empty, add_zero]

def L (g : GSem nD τ sig) : Finset Unit := if g.1.2 = .tc then {()} else ∅
/-- Barrier cells at 1, receive cells at 2, the rest at 0. -/
def lvOf : SemLoc sig → ℕ
  | .reg _ => 1
  | .dma s => if 19 ≤ s.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem add_split {a b : ℕ} (h : 0 < a + b) : 0 < a ∨ 0 < b := by omega

theorem pos_sum {T : Type} (S : Finset T) (f : T → CellTallies nD τ sig Unit) (g : GSem nD τ sig) (u : Unit)
    (h : 0 < (∑ t ∈ S, f t) g u) : ∃ t ∈ S, 0 < f t g u := by
  classical
  induction S using Finset.induction_on with
  | empty => rw [Finset.sum_empty] at h; exact absurd h (Nat.lt_irrefl 0)
  | insert t S ht ih =>
    rw [Finset.sum_insert ht] at h
    rcases add_split (show 0 < f t g u + (∑ t ∈ S, f t) g u from h) with h | h
    · exact ⟨t, Finset.mem_insert_self _ _, h⟩
    · obtain ⟨t', h1, h2⟩ := ih h; exact ⟨t', Finset.mem_insert_of_mem h1, h2⟩

theorem tally_pos {g g' : GSem nD τ sig} {k : ℕ} {u : Unit} (h : 0 < tallyAt g () k g' u) : g' = g := by
  rw [tallyAt_apply] at h
  by_contra hn
  rw [if_neg fun hh => hn hh.1] at h; exact absurd h (Nat.lt_irrefl 0)

/-- Owed units go to barrier cells (while some are left) and receive cells. -/
theorem owed_pos {c : Dev nD} {a b : ℕ} {g : GSem nD τ sig} {u : Unit} (h : 0 < owed c a b g u) :
    (a < 15 ∧ ∃ d, g = barCell d) ∨ ∃ d t, g = recvCell d t := by
  rcases add_split (show 0 < (∑ t ∈ _, _ : CellTallies nD τ sig Unit) g u + (∑ t ∈ _, _ : CellTallies nD τ sig Unit) g u from h) with h | h
  · obtain ⟨t, ht, h⟩ := pos_sum _ _ _ _ h
    exact .inl ⟨lt_of_le_of_lt (Finset.mem_filter.mp ht).2 t.isLt, _, tally_pos h⟩
  · obtain ⟨t, ht, h⟩ := pos_sum _ _ _ _ h
    exact .inr ⟨_, _, tally_pos h⟩

/-- A wait on a cell of level 0 is below everything owed. -/
theorem mayWait_low (c : Dev nD) (sm : SemLoc sig) (hsm : lvOf sm = 0) (a b : ℕ) :
    (levAts L lv : sProp 𝕄) ⊢ MayWait (c : Thread nD τ) sm () (owed c a b) :=
  MayOwe.of_cut (L := L) (lev := lv) 0 (fun p hp => by rw [Finset.mem_singleton.mp hp, L_tc]; exact Finset.mem_singleton_self _)
    (fun g u hg => by rcases owed_pos hg with ⟨_, d, rfl⟩ | ⟨d, t, rfl⟩ <;> (rw [L_tc]; exact Finset.mem_singleton_self _))
    (fun p hp => by rw [Finset.mem_singleton.mp hp]; exact Nat.le_of_eq hsm)
    (fun g u hg => by
      rcases owed_pos hg with ⟨_, d, rfl⟩ | ⟨d, t, rfl⟩
      · exact Nat.one_pos
      · show 0 < if 19 ≤ 19 + t.val then 2 else 0
        rw [if_pos (Nat.le_add_right _ _)]; decide)
/-- The barrier wait is below the landings. -/
theorem mayWait_bar (c : Dev nD) (b : ℕ) :
    (levAts L lv : sProp 𝕄) ⊢ MayWait (c : Thread nD τ) (.reg barrier0) () (owed c 15 b) :=
  MayOwe.of_cut (L := L) (lev := lv) 1 (fun p hp => by rw [Finset.mem_singleton.mp hp, L_tc]; exact Finset.mem_singleton_self _)
    (fun g u hg => by rcases owed_pos hg with ⟨_, d, rfl⟩ | ⟨d, t, rfl⟩ <;> (rw [L_tc]; exact Finset.mem_singleton_self _))
    (fun p hp => by rw [Finset.mem_singleton.mp hp]; exact Nat.le_refl 1)
    (fun g u hg => by
      rcases owed_pos hg with ⟨h, d, rfl⟩ | ⟨d, t, rfl⟩
      · exact absurd h (Nat.lt_irrefl 15)
      · show 1 < if 19 ≤ 19 + t.val then 2 else 0
        rw [if_pos (Nat.le_add_right _ _)]; decide)

end Cert.KernelIdeal.A2A
-- ==== Proof.KernelIdeal.Steps.lean ====
/-
  The steps of the kernel's body by the protocol: a barrier signal, the barrier wait, the accesses of a row block of the
  result buffer and of a slot of the scratch buffer, the copy to a peer, and the two waits that close one peer. Each rule
  takes the device, the memory and the semaphore the program names with the equation that says which one it is.
-/
module

public import proofs.«01_k».proof.Proof.KernelIdeal.Protocol

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none

variable (Y : Prods F) (K : GSem nD τ sig → ℕ)

/-! ## The records every device may consult -/

/-- One member of a family. -/
theorem pick {I : Type} [DecidableEq I] {S : Finset I} {i : I} (hi : i ∈ S) {Φ : I → sProp 𝕄} : (bigSep S Φ : sProp 𝕄) ⊢ Φ i := bigSep_elim hi

def recs : sProp 𝕄 :=
  bigSep Finset.univ fun c : Dev nD => iprop((cellInv ER (sched Y) (K (barCell c)) (barCell c) ∗ reached ER (barCell c) 0)
    ∗ bigSep Finset.univ fun t : Fin 15 => iprop(cellInv ER (sched Y) (K (sendCell c t)) (sendCell c t)
      ∗ cellInv ER (sched Y) (K (recvCell c t)) (recvCell c t)))

instance recs_persistent : BI.Persistent (recs Y K) := by unfold recs; infer_instance

theorem recs_dev (c : Dev nD) : recs Y K ⊢ iprop((cellInv ER (sched Y) (K (barCell c)) (barCell c) ∗ reached ER (barCell c) 0)
    ∗ bigSep Finset.univ fun t : Fin 15 => iprop(cellInv ER (sched Y) (K (sendCell c t)) (sendCell c t)
      ∗ cellInv ER (sched Y) (K (recvCell c t)) (recvCell c t))) := by
  unfold recs; exact bigSep_elim (Finset.mem_univ c)
theorem recs_bar (c : Dev nD) : recs Y K ⊢ iprop(cellInv ER (sched Y) (K (barCell c)) (barCell c) ∗ reached ER (barCell c) 0) :=
  (recs_dev Y K c).trans (by iintro ⟨H, -⟩; iexact H)
theorem recs_peer (c : Dev nD) (t : Fin 15) : recs Y K ⊢ iprop(cellInv ER (sched Y) (K (sendCell c t)) (sendCell c t)
      ∗ cellInv ER (sched Y) (K (recvCell c t)) (recvCell c t)) :=
  (recs_dev Y K c).trans (by
    iintro ⟨-, H⟩
    iapply (pick (Finset.mem_univ t) (Φ := fun t : Fin 15 => iprop(cellInv ER (sched Y) (K (sendCell c t)) (sendCell c t)
      ∗ cellInv ER (sched Y) (K (recvCell c t)) (recvCell c t))))
    iexact H)

/-! ## What a device holds for each peer -/

/-- For the barrier signal to peer `t`. -/
def sigRes (c : Dev nD) (t : Fin 15) : sProp 𝕄 :=
  iprop(dutyTok ER (barCell (nxt c t)) 0 t ∗ rowAny c (nxt c t) ∗ reached ER (recvCell c (rev t)) 0)
/-- For the copy to peer `t`: the tokens and the slot. -/
def sendTok (c : Dev nD) (t : Fin 15) : sProp 𝕄 :=
  iprop((dutyTok ER (recvCell (nxt c t) t) 0 0 ∗ dutyTok ER (sendCell c t) 0 0 ∗ reached ER (sendCell c t) 0) ∗ slotAny c t)
/-- What the barrier adds: the row block at the peer. -/
def sendRow (c : Dev nD) (t : Fin 15) : sProp 𝕄 := iprop(rowAny (nxt c t) c ∗ reached ER (recvCell (nxt c t) t) 0)
/-- For the waits that close peer `t`, besides the copy's credit. -/
def drainRes (c : Dev nD) (t : Fin 15) : sProp 𝕄 :=
  iprop(cred (tallyAt (recvCell c t) () N) ∗ atPos ER (sendCell c t) 0 ∅ 0 ∗ atPos ER (recvCell c t) 0 ∅ 0)
def sendCred (c : Dev nD) (t : Fin 15) : sProp 𝕄 := cred (tallyAt (sendCell c t) () N)
/-- After them. -/
def doneRes (c : Dev nD) (t : Fin 15) : sProp 𝕄 :=
  iprop(slotAny c t ∗ recvPay Y c t ∗ atPos ER (sendCell c t) 1 ∅ 0 ∗ atPos ER (recvCell c t) 1 ∅ 0)

/-- The numbers from `k` on, and those before `k`. -/
abbrev from_ (k : ℕ) : Finset (Fin 15) := Finset.univ.filter fun t => k ≤ t.val
abbrev upto (k : ℕ) : Finset (Fin 15) := Finset.univ.filter fun t => t.val < k

theorem from_zero : from_ 0 = Finset.univ := by decide
theorem from_end : from_ 15 = ∅ := by decide
theorem upto_zero : upto 0 = ∅ := by decide
theorem upto_end : upto 15 = Finset.univ := by decide
theorem from_peel (t : Fin 15) : from_ t.val = insert t (from_ (t.val + 1)) := by revert t; decide
theorem not_mem_from (t : Fin 15) : t ∉ from_ (t.val + 1) := by revert t; decide
theorem upto_peel (t : Fin 15) : upto (t.val + 1) = insert t (upto t.val) := by revert t; decide
theorem not_mem_upto (t : Fin 15) : t ∉ upto t.val := by revert t; decide

theorem bigSep_from (t : Fin 15) (Φ : Fin 15 → sProp 𝕄) :
    bigSep (from_ t.val) Φ = iprop(Φ t ∗ bigSep (from_ (t.val + 1)) Φ) := by
  rw [from_peel t]; exact bigSep_insert (not_mem_from t)
theorem bigSep_upto (t : Fin 15) (Φ : Fin 15 → sProp 𝕄) :
    bigSep (upto (t.val + 1)) Φ = iprop(Φ t ∗ bigSep (upto t.val) Φ) := by
  rw [upto_peel t]; exact bigSep_insert (not_mem_upto t)

/-- Contents that read as `X` are `X` owned. -/
theorem owns_at (c : Thread nD τ) {sp : Space} {sh : Shape} {e : EltTy} (m : Memref sig c.2.kind sp sh e) {X : sh.Idx → Elt F e}
    {f : m.view.ty.Contents (Elt F)} (h : m.view.read (Elt F) f = X) :
    (m.view.loc c ↦[m.view.set]{fullShare} f : sProp 𝕄) ⊢ owns c m fullShare X := by
  subst h; exact owns_intro c m fullShare f

section Rules

/-! ## The barrier -/

/-- The barrier units up to `a` paid. -/
def sigSt (c : Dev nD) (a : ℕ) : sProp 𝕄 :=
  iprop((∃ W, owes (c : Thread nD τ) (owed c a 0) W) ∗ bigSep (from_ a) (sigRes c))

theorem sig_step (c : Dev nD) (t : Fin 15) {n : Dev nD} (hn : n = nxt c t) {s : Sem sig} (hs : s = barrier0) {a b : ℕ}
    (ha : a = t.val) (hb : b = t.val + 1)
    {α : Type} {Q : α → sProp 𝕄} {k : PUnit → Prog (TpuEff nD τ sig (Elt F) Λ₀ .tc) α} :
    iprop(recs Y K ∗ sigSt c a)
      ⊢ iprop((sigSt c b -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) s (1#32 : BitVec 32).toInt) k) Q) := by
  subst hn hs ha hb
  rw [show (1#32 : BitVec 32).toInt = ((1#32 : BitVec 32).toNat : Int) from rfl]
  unfold sigSt
  rw [bigSep_from]
  iintro ⟨#HR, ⟨%W, HO⟩, Hs, Hrest⟩ Hk
  unfold sigRes
  icases Hs with ⟨Ht, Hrow, Hr⟩
  ihave HB := (recs_bar Y K (nxt c t)) $$ HR
  icases HB with ⟨HI, Hr0⟩
  iapply (Rounds.wp_signal 𝒱₀ ER (sched Y) (c : Thread nD τ) none (dst := (nxt c t : Thread nD τ)) (κ := K (barCell (nxt c t)))
      (r := 0) (d := t) (by rw [duties_bar]; exact Finset.mem_univ _) (show (sched Y).amount (barCell (nxt c t)) 0 t = (1#32 : BitVec 32).toNat from rfl) ()
      (O₀ := owed c t.val 0) (owed c (t.val + 1) 0) (owed_bar c t 0)) $$ [HI HO Ht Hrow Hr Hr0]
  · isplitl [HI]; · iexact HI
    isplitl [HO]; · iexact HO
    isplitl [Ht]; · iexact Ht
    isplitr [Hr0]
    · rw [payload_bar]; unfold barPay; rw [nxt_rev]
      isplitl [Hrow] <;> iassumption
    iexact Hr0
  iintro HO
  iapply Hk
  isplitl [HO]
  · iexists W; iexact HO
  iexact Hrest

/-- The wait for all fifteen. -/
theorem bar_wait (c : Dev nD) {s : Sem sig} (hs : s = barrier0)
    {α : Type} {Q : α → sProp 𝕄} {k : PUnit → Prog (TpuEff nD τ sig (Elt F) Λ₀ .tc) α} :
    iprop(recs Y K ∗ levAts L lv ∗ sigSt c 15 ∗ cred (tallyAt (barCell c) () 15) ∗ atPos ER (barCell c) 0 ∅ 0)
      ⊢ iprop((((∃ W, owes (c : Thread nD τ) (owed c 15 0) W) ∗ atPos ER (barCell c) 1 ∅ 0 ∗ bigSep Finset.univ (sendRow c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s (15#32 : BitVec 32).toInt) k) Q) := by
  subst hs
  rw [show (15#32 : BitVec 32).toInt = ((15#32 : BitVec 32).toNat : Int) from rfl]
  unfold sigSt
  iintro ⟨#HR, #Hlev, ⟨⟨%W, HO⟩, -⟩, Hc, Hat⟩ Hk
  ihave HB := (recs_bar Y K c) $$ HR
  icases HB with ⟨HI, -⟩
  iapply (Rounds.wp_wait_rest_token 𝒱₀ ER (sched Y) (c : Thread nD τ) none (κ := K (barCell c))
      (wpE_semWait_eq 𝒱₀ (c : Thread nD τ) none Set.univ) (Set.mem_univ _) () (O := owed c 15 0) (W := W) (R := 0) (m := 0) (T := ∅)
      (by rw [expect_bar]; decide)) $$ [HI Hc HO Hat]
  · isplitl [HI]; · iexact HI
    isplitl [Hc]; · iexact Hc
    isplitl [HO]; · iexact HO
    isplitr; · iapply (mayWait_bar c 0); iexact Hlev
    iexact Hat
  rw [rest_bar]
  iintro ⟨HO, Hat, -, Hpay⟩
  iapply Hk
  isplitl [HO]; · iexists _; iexact HO
  isplitl [Hat]; · iexact Hat
  rw [show bigSep Finset.univ (sendRow (F := F) c) = bigSep Finset.univ (fun t => barPay (F := F) c (rev t)) from
    bigSep_congr fun t _ => by unfold sendRow barPay; rw [rev_rev],
    show (fun t => barPay (F := F) c (rev t)) = (fun t => barPay (F := F) c (revEquiv t)) from rfl,
    ← bigSep_univ_equiv revEquiv]
  iexact Hpay

/-! ## The buffers -/

/-- A load of a row block of the result buffer whose value is not used. -/
theorem row_load (c b : Dev nD) {off : Fin 2 → ℕ} (hoff : off = ![512 * b.val, 0]) {inb}
   {α : Type} {Q : α → sProp 𝕄} {k' : Vec F S512x256 .bf16 → Prog (TpuEff nD τ sig (Elt F) Λ₀ .tc) α} {hl} :
    rowAny c b ⊢ iprop((rowAny c b -∗ ∀ x, wp frame (wpE (defs₀ (F := F)) 𝒱₀ (c : Thread nD τ) none) Set.univ (k' x) Q)
        -∗ wp frame (wpE (defs₀ (F := F)) 𝒱₀ (c : Thread nD τ) none) Set.univ
            (.op (.load outM (Rect.unit (s := S8192x256) off S512x256.size inb).toLoadRect hl) k') Q) := by
  subst hoff
  unfold rowAny
  iintro ⟨%f, H⟩ Hk
  iapply (wp_load_rect 𝒱₀ (c : Thread nD τ) none Set.univ (m := outM) (r := rowR b) (S := (rowM b).view.set) (Finset.Subset.refl _)) $$ H
  iintro H
  ispecialize Hk $$ [H]
  · iexists f; iexact H
  iapply Hk
theorem row_store (c b : Dev nD) {off : Fin 2 → ℕ} (hoff : off = ![512 * b.val, 0]) {inb} {w : Vec F S512x256 .bf16} {hx hm}
    {α : Type} {Q : α → sProp 𝕄} {k : PUnit → Prog (TpuEff nD τ sig (Elt F) Λ₀ .tc) α} :
    rowAny c b ⊢ iprop((rowAt c b w -∗ wp frame (wpE (defs₀ (F := F)) 𝒱₀ (c : Thread nD τ) none) Set.univ (k ⟨⟩) Q)
        -∗ wp frame (wpE (defs₀ (F := F)) 𝒱₀ (c : Thread nD τ) none) Set.univ
            (.op (.store outM (Rect.unit (s := S8192x256) off S512x256.size inb) w Finset.univ hx hm) k) Q) := by
  subst hoff
  unfold rowAny
  iintro ⟨%f, H⟩ Hk
  iapply (wp_store 𝒱₀ (c : Thread nD τ) none Set.univ (m := outM) (r := rowR b) (S := (rowM b).view.set) (Finset.Subset.refl _)) $$ H
  iintro H
  iapply Hk
  unfold rowAt
  iapply (owns_at (c : Thread nD τ) (rowM b) (View.read_write_univ (v := (rowM b).view) f w))
  iexact H

/-- A load of a slot whose value is not used. -/
theorem slot_load (c : Dev nD) (t : Fin 15) {off : Fin 3 → ℕ} (hoff : off = ![t.val, 0, 0]) {inb}
   {α : Type} {Q : α → sProp 𝕄} {k' : Vec F S1x512x256 .bf16 → Prog (TpuEff nD τ sig (Elt F) Λ₀ .tc) α} {hl} :
    slotAny c t ⊢ iprop((slotAny c t -∗ ∀ x, wp frame (wpE (defs₀ (F := F)) 𝒱₀ (c : Thread nD τ) none) Set.univ (k' x) Q)
        -∗ wp frame (wpE (defs₀ (F := F)) 𝒱₀ (c : Thread nD τ) none) Set.univ
            (.op (.load comM (Rect.unit (s := S15x512x256) off S1x512x256.size inb).toLoadRect hl) k') Q) := by
  subst hoff
  unfold slotAny
  iintro ⟨%f, H⟩ Hk
  iapply (wp_load_rect 𝒱₀ (c : Thread nD τ) none Set.univ (m := comM) (r := slotR t) (S := (slotM t).view.set) (Finset.Subset.refl _)) $$ H
  iintro H
  ispecialize Hk $$ [H]
  · iexists f; iexact H
  iapply Hk

/-- A slot read as a row block. -/
abbrev slotQ (t : Fin 15) : Memref sig .tc .vmem S512x256 .bf16 := (slotM t).squeeze S512x256 squeezes_S1x512x256_S512x256

/-- Slot `t` holds the block `w`. -/
def slotAt (c : Dev nD) (t : Fin 15) (w : Vec F S512x256 .bf16) : sProp 𝕄 := owns (c : Thread nD τ) (slotQ t) fullShare w

theorem slot_store (c : Dev nD) (t : Fin 15) {off : Fin 3 → ℕ} (hoff : off = ![t.val, 0, 0]) {inb}
    {x : Vec F S512x8192 .bf16} {w : Vec F S8192x256 .bf16} {hx hm}
    {α : Type} {Q : α → sProp 𝕄} {k : PUnit → Prog (TpuEff nD τ sig (Elt F) Λ₀ .tc) α} :
    slotAny c t ⊢ iprop((slotAt c t (k0_pay1 x w) -∗ wp frame (wpE (defs₀ (F := F)) 𝒱₀ (c : Thread nD τ) none) Set.univ (k ⟨⟩) Q)
        -∗ wp frame (wpE (defs₀ (F := F)) 𝒱₀ (c : Thread nD τ) none) Set.univ
            (.op (.store comM (Rect.unit (s := S15x512x256) off S1x512x256.size inb) (k0_pay2 x w) Finset.univ hx hm) k) Q) := by
  subst hoff
  unfold slotAny
  iintro ⟨%f, H⟩ Hk
  iapply (wp_store 𝒱₀ (c : Thread nD τ) none Set.univ (m := comM) (r := slotR t) (S := (slotM t).view.set) (Finset.Subset.refl _)) $$ H
  iintro H
  iapply Hk
  unfold slotAt
  have hset : (slotQ t).view.set = (slotM t).view.set := View.set_reshape _ _
  have hrd : (slotQ t).view.read (Elt F) ((slotM t).view.write (Elt F) f (k0_pay2 x w) Finset.univ) = k0_pay1 x w := by
    funext i
    show (slotM t).view.read (Elt F) ((slotM t).view.write (Elt F) f (k0_pay2 x w) Finset.univ) (Shape.reshapeEquiv _ i) = _
    rw [View.read_write_univ]
    unfold k0_pay2 shapeCast
    rw [Shape.reshapeEquiv_reshapeEquiv, Shape.reshapeEquiv_self]
  iapply (owns_at (c : Thread nD τ) (slotQ t) hrd)
  rw [hset]
  iexact H

/-! ## The copy to a peer -/

theorem send_step (c : Dev nD) (t : Fin 15) {n : Dev nD} (hn : n = nxt c t)
    {src : Memref sig .tc .vmem S512x256 .bf16} (hsrc : src = slotQ t)
    {dst : Memref sig .tc .vmem S512x256 .bf16} (hdst : dst = rowM c)
    {sS sR : DmaSem sig} (hS : sS = sendS t) (hR : sR = recvS t) {hsc} {h1 h2} {h3 : DmaTarget.Typed .vmem (.dma sR) (.remote (Dev.tc n) dst (.dma sS) hsc)}
    {α : Type} {Q : α → sProp 𝕄} {k : PUnit → Prog (TpuEff nD τ sig (Elt F) Λ₀ .tc) α} :
    iprop(recs Y K ∗ slotAt c t (Y c (nxt c t)) ∗ (∃ W, owes (c : Thread nD τ) (owed c 15 t.val) W)
        ∗ (dutyTok ER (recvCell (nxt c t) t) 0 0 ∗ dutyTok ER (sendCell c t) 0 0 ∗ reached ER (sendCell c t) 0)
        ∗ sendRow c t)
      ⊢ iprop(((sendCred c t ∗ (∃ W, owes (c : Thread nD τ) (owed c 15 (t.val + 1)) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n) dst (.dma sS) hsc) (.dma sR) h1 h2 h3) k) Q) := by
  subst hn hsrc hdst hS hR
  unfold slotAt owns sendRow rowAny
  iintro ⟨#HR, ⟨%fs, %hfs, Hsrc⟩, ⟨%W, HO⟩, ⟨Ht2, Ht1, Hr1⟩, ⟨%fd, Hdst⟩, Hr2⟩ Hk
  ihave HB := (recs_peer Y K c t) $$ HR
  icases HB with ⟨HI1, -⟩
  ihave HB := (recs_peer Y K (nxt c t) t) $$ HR
  icases HB with ⟨-, HI2⟩
  have hset : (slotQ t).view.set = (slotM t).view.set := View.set_reshape _ _
  iapply (Rounds.wp_send_pointsTo 𝒱₀ ER (sched Y) (c : Thread nD τ) none (c' := (nxt c t : Thread nD τ))
      (src := slotQ t) (dst := rowM c) (sS := .dma (sendS t)) (sem := .dma (recvS t)) (r₁ := 0) (r₂ := 0) (d₁ := 0) (d₂ := 0)
      (κ₁ := K (sendCell c t)) (κ₂ := K (recvCell (nxt c t) t))
      (by rw [duties_send]; exact Finset.mem_singleton_self _) (by rw [duties_recv]; exact Finset.mem_singleton_self _)
      () () N rfl (amount_send Y c t 0 0) (amount_recv Y (nxt c t) t 0 0)
      (owed c 15 (t.val + 1)) (owed_recv c 15 t) (fs := fs) (fd := fd) (q := fullShare)
      (by rw [payload_send]; unfold slotAny; rw [hset]; iintro H; iexists fs; iexact H)
      (by
        rw [payload_recv]; unfold recvPay rowAt; rw [nxt_rev, ← hfs]
        exact owns_at (nxt c t : Thread nD τ) (rowM c) (View.read_write_univ (v := (rowM c).view) fd _)))
    $$ [HI1 HI2 Hsrc Hdst HO Ht1 Hr1 Ht2 Hr2]
  · isplitl [HI1]; · iexact HI1
    isplitl [HI2]; · iexact HI2
    isplitl [Hsrc]; · iexact Hsrc
    isplitl [Hdst]; · iexact Hdst
    isplitl [HO]; · iexact HO
    isplitl [Ht1]; · iexact Ht1
    isplitl [Hr1]; · iexact Hr1
    isplitl [Ht2] <;> iassumption
  iintro ⟨Hc, HO⟩
  iapply Hk
  isplitl [Hc]; · unfold sendCred; iexact Hc
  iexists W; iexact HO

/-! ## Closing a peer -/

/-- The peers up to `a` closed. -/
def drainSt (c : Dev nD) (a : ℕ) : sProp 𝕄 :=
  iprop((∃ W, owes (c : Thread nD τ) 0 W) ∗ bigSep (from_ a) (fun t => iprop(sendCred c t ∗ drainRes c t)) ∗ bigSep (upto a) (doneRes Y c))

theorem drain_step (c : Dev nD) (t : Fin 15) {a b : ℕ} (ha : a = t.val) (hb : b = t.val + 1)
    {s₁ s₂ : DmaSem sig} (hs₁ : s₁ = sendS t) (hs₂ : s₂ = recvS t)
    {m₁ m₂ : Memref sig .tc .vmem S512x256 .bf16} (hm₁ : m₁.view.dmaCredit = N) (hm₂ : m₂.view.dmaCredit = N) {h1 h2 h3 h4}
    {α : Type} {Q : α → sProp 𝕄} {k : PUnit → Prog (TpuEff nD τ sig (Elt F) Λ₀ .tc) α} :
    iprop(recs Y K ∗ drainSt Y c a)
      ⊢ iprop((drainSt Y c b -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s₁ m₁ m₂ h1 h2) fun _ => .op (.waitDma2 s₂ m₂ m₁ h3 h4) k) Q) := by
  subst ha hb hs₁ hs₂
  unfold drainSt
  rw [bigSep_from, bigSep_upto]
  iintro ⟨#HR, ⟨%W, HO⟩, ⟨Hs, Hrest1⟩, Hdone⟩ Hk
  unfold sendCred drainRes
  icases Hs with ⟨Hc1, Hc2, Ha1, Ha2⟩
  ihave HB := (recs_peer Y K c t) $$ HR
  icases HB with ⟨HI1, HI2⟩
  iapply (Rounds.wp_wait_rest_token 𝒱₀ ER (sched Y) (c : Thread nD τ) none (κ := K (sendCell c t))
      (wpE_waitDma2_eq 𝒱₀ (c : Thread nD τ) none Set.univ) (Set.mem_univ _) () (O := 0) (W := W) (R := 0) (m := 0) (T := ∅)
      (by rw [expect_send, hm₂, Nat.zero_add])) $$ [HI1 Hc1 HO Ha1]
  · isplitl [HI1]; · iexact HI1
    isplitl [Hc1]; · rw [hm₂]; iexact Hc1
    isplitl [HO]; · iexact HO
    isplitr; · rw [MayWait_zero]; iempintro
    iexact Ha1
  rw [rest_send]
  iintro ⟨HO, Ha1, -, Hslot⟩
  iapply (Rounds.wp_wait_rest_token 𝒱₀ ER (sched Y) (c : Thread nD τ) none (κ := K (recvCell c t))
      (wpE_waitDma2_eq 𝒱₀ (c : Thread nD τ) none Set.univ) (Set.mem_univ _) () (O := 0) (W := _) (R := 0) (m := 0) (T := ∅)
      (by rw [expect_recv, hm₁, Nat.zero_add])) $$ [HI2 Hc2 HO Ha2]
  · isplitl [HI2]; · iexact HI2
    isplitl [Hc2]; · rw [hm₁]; iexact Hc2
    isplitl [HO]; · iexact HO
    isplitr; · rw [MayWait_zero]; iempintro
    iexact Ha2
  rw [rest_recv]
  iintro ⟨HO, Ha2, -, Hrow⟩
  iapply Hk
  isplitl [HO]; · iexists _; iexact HO
  isplitl [Hrest1]; · iexact Hrest1
  isplitr [Hdone]
  · unfold doneRes
    isplitl [Hslot]; · iexact Hslot
    isplitl [Hrow]; · iexact Hrow
    isplitl [Ha1] <;> iassumption
  iexact Hdone

end Rules

end Cert.KernelIdeal.A2A
-- ==== Proof.KernelIdeal.Body.lean ====
/-
  The kernel's body at one grid point of one device, by the steps of the protocol: at the first point the barrier and the
  device's own block, at a later one a slot filled and copied to the peer, at the last one also the waits for all peers.
-/
module

public import proofs.«01_k».proof.Proof.KernelIdeal.Steps

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (Y : Prods F) (K : GSem nD τ sig → ℕ)

/-! ## What the program computes: peers, offsets, conditions -/

theorem dev1_eq (c : Dev nD) (h : k0_dev1 c < nD) : (⟨k0_dev1 c, h⟩ : Dev nD) = nxt c 0 := Fin.ext (by revert c; decide)
theorem dev2_eq (c : Dev nD) (h : k0_dev2 c < nD) : (⟨k0_dev2 c, h⟩ : Dev nD) = nxt c 1 := Fin.ext (by revert c; decide)
theorem dev3_eq (c : Dev nD) (h : k0_dev3 c < nD) : (⟨k0_dev3 c, h⟩ : Dev nD) = nxt c 2 := Fin.ext (by revert c; decide)
theorem dev4_eq (c : Dev nD) (h : k0_dev4 c < nD) : (⟨k0_dev4 c, h⟩ : Dev nD) = nxt c 3 := Fin.ext (by revert c; decide)
theorem dev5_eq (c : Dev nD) (h : k0_dev5 c < nD) : (⟨k0_dev5 c, h⟩ : Dev nD) = nxt c 4 := Fin.ext (by revert c; decide)
theorem dev6_eq (c : Dev nD) (h : k0_dev6 c < nD) : (⟨k0_dev6 c, h⟩ : Dev nD) = nxt c 5 := Fin.ext (by revert c; decide)
theorem dev7_eq (c : Dev nD) (h : k0_dev7 c < nD) : (⟨k0_dev7 c, h⟩ : Dev nD) = nxt c 6 := Fin.ext (by revert c; decide)
theorem dev8_eq (c : Dev nD) (h : k0_dev8 c < nD) : (⟨k0_dev8 c, h⟩ : Dev nD) = nxt c 7 := Fin.ext (by revert c; decide)
theorem dev9_eq (c : Dev nD) (h : k0_dev9 c < nD) : (⟨k0_dev9 c, h⟩ : Dev nD) = nxt c 8 := Fin.ext (by revert c; decide)
theorem dev10_eq (c : Dev nD) (h : k0_dev10 c < nD) : (⟨k0_dev10 c, h⟩ : Dev nD) = nxt c 9 := Fin.ext (by revert c; decide)
theorem dev11_eq (c : Dev nD) (h : k0_dev11 c < nD) : (⟨k0_dev11 c, h⟩ : Dev nD) = nxt c 10 := Fin.ext (by revert c; decide)
theorem dev12_eq (c : Dev nD) (h : k0_dev12 c < nD) : (⟨k0_dev12 c, h⟩ : Dev nD) = nxt c 11 := Fin.ext (by revert c; decide)
theorem dev13_eq (c : Dev nD) (h : k0_dev13 c < nD) : (⟨k0_dev13 c, h⟩ : Dev nD) = nxt c 12 := Fin.ext (by revert c; decide)
theorem dev14_eq (c : Dev nD) (h : k0_dev14 c < nD) : (⟨k0_dev14 c, h⟩ : Dev nD) = nxt c 13 := Fin.ext (by revert c; decide)
theorem dev15_eq (c : Dev nD) (h : k0_dev15 c < nD) : (⟨k0_dev15 c, h⟩ : Dev nD) = nxt c 14 := Fin.ext (by revert c; decide)

theorem off2_eq (c : Dev nD) : k0_off2 c = ![512 * c.val, 0] := by revert c; decide
theorem off6_eq (c : Dev nD) : k0_off6 c = ![512 * c.val, 0] := by revert c; decide
theorem off3_eq (i : grid0.Coords) (t : Fin 15) (h : (i 0).val = t.val + 1) : k0_off3 i = ![t.val, 0, 0] := by
  unfold k0_off3; rw [h]; clear h; revert t; decide
theorem off7_eq (i : grid0.Coords) (t : Fin 15) (h : (i 0).val = t.val + 1) : k0_off7 i = ![t.val, 0, 0] := by
  unfold k0_off7; rw [h]; clear h; revert t; decide
theorem off5_eq (i : grid0.Coords) (t : Fin 15) (h : (i 0).val = t.val + 1) : k0_off5 i = ![t.val] := by
  unfold k0_off5; rw [h]; clear h; revert t; decide
theorem off4_eq (i : grid0.Coords) (t : Fin 15) (h : (i 0).val = t.val + 1) : k0_off4 i = ![t.val + 1] := by
  unfold k0_off4; rw [h]; clear h; revert t; decide

theorem cond1_first (i : grid0.Coords) (h : (i 0).val = 0) : k0_cond1 i = 1#1 := by unfold k0_cond1; rw [h]; decide
theorem cond2_first (i : grid0.Coords) (h : (i 0).val = 0) : k0_cond2 i = 1#1 := by unfold k0_cond2; rw [h]; decide
theorem cond3_first (i : grid0.Coords) (h : (i 0).val = 0) : k0_cond3 i ≠ 1#1 := by unfold k0_cond3; rw [h]; decide
theorem cond4_first (i : grid0.Coords) (h : (i 0).val = 0) : k0_cond4 i ≠ 1#1 := by unfold k0_cond4; rw [h]; decide
theorem cond1_later (i : grid0.Coords) (t : Fin 15) (h : (i 0).val = t.val + 1) : k0_cond1 i ≠ 1#1 := by
  unfold k0_cond1; rw [h]; clear h; revert t; decide
theorem cond2_later (i : grid0.Coords) (t : Fin 15) (h : (i 0).val = t.val + 1) : k0_cond2 i ≠ 1#1 := by
  unfold k0_cond2; rw [h]; clear h; revert t; decide
theorem cond3_later (i : grid0.Coords) (t : Fin 15) (h : (i 0).val = t.val + 1) : k0_cond3 i = 1#1 := by
  unfold k0_cond3; rw [h]; clear h; revert t; decide
theorem cond4_mid (i : grid0.Coords) (t : Fin 15) (h : (i 0).val = t.val + 1) (ht : t.val < 14) : k0_cond4 i ≠ 1#1 := by
  unfold k0_cond4; rw [h]; clear h; revert t; decide
theorem cond4_last (i : grid0.Coords) (h : (i 0).val = 15) : k0_cond4 i = 1#1 := by unfold k0_cond4; rw [h]; decide

/-- The table of a device: entry `j` is the device `j` places after it. -/
def tab (c : Dev nD) : S16.Idx → Elt F .i32 := fun x => BitVec.ofNat 32 ((c.val + (x 0).val) % 16)

theorem tab_read (c : Dev nD) (t : Fin 15) {off : Fin 1 → ℕ} (hoff : off = ![t.val + 1]) (inb) (x : S1.Idx) :
    ((Memref.whole main_v8 : Memref sig .tc .smem S16 .i32).access (Rect.unit (s := S16) off S1.size inb)).read (Elt F) (tab c) x
      = BitVec.ofNat 32 (nxt c t).val := by
  subst hoff
  show BitVec.ofNat 32 ((c.val + _) % 16) = BitVec.ofNat 32 ((c.val + t.val + 1) % 16)
  have hx : (x 0).val < 1 := (x 0).isLt
  congr 2
  show c.val + (t.val + 1 + 1 * (x 0).val) = _
  omega
theorem tab_load (c : Dev nD) (t : Fin 15) {off : Fin 1 → ℕ} (hoff : off = ![t.val + 1]) {inb} {q : PosShare TreeShare}
    {α : Type} {Q : α → sProp 𝕄} {k' : (S1.Idx → Elt F .i32) → Prog (TpuEff nD τ sig (Elt F) Λ₀ .tc) α} {hl} :
    ((c : Thread nD τ).loc main_v8 ↦{q} (tab c))
      ⊢ iprop((((c : Thread nD τ).loc main_v8 ↦{q} (tab c)) -∗ wp frame (wpE (defs₀ (F := F)) 𝒱₀ (c : Thread nD τ) none) Set.univ
            (k' fun _ => BitVec.ofNat 32 (nxt c t).val) Q)
        -∗ wp frame (wpE (defs₀ (F := F)) 𝒱₀ (c : Thread nD τ) none) Set.univ
            (.op (.load (Memref.whole main_v8 : Memref sig .tc .smem S16 .i32) (Rect.unit (s := S16) off S1.size inb).toLoadRect hl) k') Q) := by
  have e : ((Memref.whole main_v8 : Memref sig .tc .smem S16 .i32).access (Rect.unit (s := S16) off S1.size inb)).read (Elt F) (tab c)
      = fun _ => BitVec.ofNat 32 (nxt c t).val := funext fun x => tab_read c t hoff inb x
  have h := wp_load_rect 𝒱₀ (c : Thread nD τ) none Set.univ (defs := defs₀ (F := F)) (Q := Q) (m := (Memref.whole main_v8 : Memref sig .tc .smem S16 .i32))
    (r := Rect.unit (s := S16) off S1.size inb) (hl := hl) (k := k') (Γ := PendingWaitsCtx.empty) (q := q) (f := tab c) (S := Finset.univ) (Finset.subset_univ _)
  rw [e] at h
  exact h
theorem dev16_word (d : Dev nD) : k0_dev16 (BitVec.ofNat 32 d.val) = d.val := by revert d; decide
theorem chk1_word (i : grid0.Coords) (d : Dev nD) : k0_chk1 i (BitVec.ofNat 32 d.val) := fun _ => by rw [dev16_word]; exact d.isLt

theorem sendS_eq (t : Fin 15) {off : Fin 1 → ℕ} (hoff : off = ![t.val]) (inb) :
    ((cc0_scratch1.slice (Rect.unit (s := S15) off S1.size inb)).squeeze S_ squeezes_S1_S_).sem = sendS t := by
  subst hoff; revert t; decide
theorem recvS_eq (t : Fin 15) {off : Fin 1 → ℕ} (hoff : off = ![t.val]) (inb) :
    ((cc0_scratch2.slice (Rect.unit (s := S15) off S1.size inb)).squeeze S_ squeezes_S1_S_).sem = recvS t := by
  subst hoff; revert t; decide
theorem rowM_eq (c : Dev nD) {off : Fin 2 → ℕ} (hoff : off = ![512 * c.val, 0]) (inb) (h) :
    outM.slice (Rect.unit (s := S8192x256) off S512x256.size inb) h = rowM c := by subst hoff; rfl
theorem slotQ_eq (t : Fin 15) {off : Fin 3 → ℕ} (hoff : off = ![t.val, 0, 0]) (inb) (h) (h') :
    (comM.slice (Rect.unit (s := S15x512x256) off S1x512x256.size inb) h).squeeze S512x256 h' = slotQ t := by subst hoff; rfl

/-- Reading a memref through the access of all of it. -/
theorem read_access_all {sp : Space} {n₀ n₁ : ℕ} {e : EltTy} (m : Memref sig .tc sp ⟨2, ![n₀, n₁]⟩ e) (inb)
    (f : m.view.ty.Contents (Elt F)) :
    (m.access (Rect.unit (s := ⟨2, ![n₀, n₁]⟩) ![0, 0] (⟨2, ![n₀, n₁]⟩ : Shape).size inb)).read (Elt F) f = m.view.read (Elt F) f := by
  funext x
  show m.view.read (Elt F) f ((Rect.unit (s := ⟨2, ![n₀, n₁]⟩) ![0, 0] _ inb).emb x) = _
  congr 1
  funext a
  apply Fin.ext
  match a with
  | 0 => show 0 + 1 * (x 0).val = (x 0).val; omega
  | 1 => show 0 + 1 * (x 1).val = (x 1).val; omega

/-- A load of a whole memref owned at `X`. -/
theorem all_load (c : Dev nD) {cs : CoreSpace} {n₀ n₁ : ℕ} {e : EltTy} (m : Memref sig .tc cs ⟨2, ![n₀, n₁]⟩ e) {q : PosShare TreeShare}
    {X : (⟨2, ![n₀, n₁]⟩ : Shape).Idx → Elt F e} {inb}
    {α : Type} {Q : α → sProp 𝕄} {k' : ((⟨2, ![n₀, n₁]⟩ : Shape).Idx → Elt F e) → Prog (TpuEff nD τ sig (Elt F) Λ₀ .tc) α} {hl} :
    owns (c : Thread nD τ) m q X
      ⊢ iprop((owns (c : Thread nD τ) m q X -∗ wp frame (wpE (defs₀ (F := F)) 𝒱₀ (c : Thread nD τ) none) Set.univ (k' X) Q)
        -∗ wp frame (wpE (defs₀ (F := F)) 𝒱₀ (c : Thread nD τ) none) Set.univ
            (.op (.load m (Rect.unit (s := ⟨2, ![n₀, n₁]⟩) ![0, 0] (⟨2, ![n₀, n₁]⟩ : Shape).size inb).toLoadRect hl) k') Q) := by
  unfold owns
  iintro ⟨%f, %hf, H⟩ Hk
  iapply (wp_load_rect 𝒱₀ (c : Thread nD τ) none Set.univ (m := m)
    (r := Rect.unit (s := ⟨2, ![n₀, n₁]⟩) ![0, 0] (⟨2, ![n₀, n₁]⟩ : Shape).size inb) (S := m.view.set) (View.set_slice_subset m.view _)) $$ H
  rw [read_access_all, hf]
  iintro H
  iapply Hk
  iexists f
  isplitr
  · ipureintro; exact hf
  iexact H

/-! ## The body -/

/-- After the barrier, `a` copies issued. -/
def midSt (c : Dev nD) (a : ℕ) : sProp 𝕄 :=
  iprop((∃ W, owes (c : Thread nD τ) (owed c 15 a) W) ∗ bigSep (from_ a) (fun t => iprop(sendTok c t ∗ sendRow c t)) ∗ bigSep (upto a) (sendCred c))

/-- All copies issued: the closing of the peers begins. -/
theorem drain_start (c : Dev nD) :
    iprop((∃ W, owes (c : Thread nD τ) (owed c 15 ((14 : Fin 15).val + 1)) W) ∗ sendCred c 14 ∗ bigSep (upto 14) (sendCred (F := F) c) ∗ bigSep Finset.univ (drainRes (F := F) c))
      ⊢ drainSt Y c 0 := by
  have e : bigSep Finset.univ (sendCred (F := F) c) = iprop(sendCred c 14 ∗ bigSep (upto 14) (sendCred (F := F) c)) := by
    rw [← upto_end]; exact bigSep_upto (14 : Fin 15) _
  unfold drainSt
  rw [show owed c 15 ((14 : Fin 15).val + 1) = 0 from owed_none c, from_zero, upto_zero, bigSep_sep', e]
  iintro ⟨HO, Hc, Hcr, Hd⟩
  isplitl [HO]; · iexact HO
  isplitl [Hc Hcr Hd]
  · isplitl [Hc Hcr]
    · isplitl [Hc]; · iexact Hc
      iexact Hcr
    iexact Hd
  rw [bigSep_empty]; iempintro

section Body

variable (c : Dev nD) (i : grid0.Coords) {q q₂ q₃ : PosShare TreeShare}
  (arg2 : Memref sig .tc .vmem S512x8192 .bf16) (harg2 : arg2.IsWhole) (arg3 : Memref sig .tc .vmem S8192x256 .bf16) (harg3 : arg3.IsWhole)
  (h1 : (Memref.whole main_v8 : Memref sig .tc .smem S16 .i32).IsWhole) (h4 : outM.IsWhole) (h5 : comM.IsWhole)
  {xv : Vec F S512x8192 .bf16} {wv : Vec F S8192x256 .bf16}

set_option maxHeartbeats 4000000 in
theorem body_mid (t : Fin 15) (hi : (i 0).val = t.val + 1) (ht : t.val < 14) (hY : Y c (nxt c t) = k0_pay1 xv wv) (Kt : PUnit → sProp 𝕄) :
    iprop(recs Y K ∗ midSt c t.val ∗ ((c : Thread nD τ).loc main_v8 ↦{q} (tab c)) ∗ owns (c : Thread nD τ) arg2 q₂ xv ∗ owns (c : Thread nD τ) arg3 q₃ wv)
      ⊢ iprop(((midSt c (t.val + 1) ∗ ((c : Thread nD τ).loc main_v8 ↦{q} (tab c)) ∗ owns (c : Thread nD τ) arg2 q₂ xv ∗ owns (c : Thread nD τ) arg3 q₃ wv) -∗ Kt ⟨⟩)
        -∗ wp frame (wpE (defs₀ (F := F)) 𝒱₀ (c : Thread nD τ) none) Set.univ
          (cc0_body i (Memref.whole main_v8) h1 arg2 harg2 arg3 harg3 outM h4 comM h5 cc0_scratch1 cc0_scratch2) Kt) := by
  simp only [cc0_body_eq_skeleton]; unfold cc0_body_skel
  simp only [dif_neg (cond1_later i t hi), dif_neg (cond2_later i t hi), dif_pos (cond3_later i t hi), dif_neg (cond4_mid i t hi ht)]
  simp only [smemLoad, smemLoadElt, Prog.lift, Prog.bind_op, Prog.bind_ret, Prog.pure_eq_ret, Prog.bind_assoc, wp_deviceId]
  unfold midSt
  rw [bigSep_from, bigSep_upto]
  unfold sendTok
  iintro ⟨#HR, ⟨HO, ⟨⟨⟨Htok, Hslot⟩, Hrow⟩, Hrest⟩, Hcr⟩, Htab, Hx, Hw⟩ Hk
  iapply (all_load c arg2) $$ Hx
  iintro Hx
  iapply (all_load c arg3) $$ Hw
  iintro Hw
  iapply (slot_load c t (off3_eq i t hi)) $$ Hslot
  iintro Hslot %_
  iapply (slot_store c t (off3_eq i t hi)) $$ Hslot
  iintro Hslot
  iapply (tab_load c t (off4_eq i t hi)) $$ Htab
  iintro Htab
  simp only [wp_assume_of _ _ _ _ (d := k0_chk1.dec _ _) (chk1_word i (nxt c t))]
  rw [← hY]
  iapply (send_step Y K c t (Fin.ext (dev16_word (nxt c t))) (slotQ_eq t (off7_eq i t hi) _ _ _) (rowM_eq c (off6_eq c) _ _)
    (sendS_eq t (off5_eq i t hi) _) (recvS_eq t (off5_eq i t hi) _)) $$ [Hslot HO Htok Hrow]
  · isplitr; · iexact HR
    isplitl [Hslot]; · iexact Hslot
    isplitl [HO]; · iexact HO
    isplitl [Htok] <;> iassumption
  iintro ⟨Hc, HO⟩
  rw [wp_ret]; imodintro
  iapply Hk
  isplitl [HO Hrest Hc Hcr]
  · isplitl [HO]; · iexact HO
    isplitl [Hrest]; · iexact Hrest
    isplitl [Hc] <;> iassumption
  isplitl [Htab]; · iexact Htab
  isplitl [Hx] <;> iassumption

set_option maxHeartbeats 8000000 in
theorem body_first (hi : (i 0).val = 0) (hY : Y c c = k0_pay1 xv wv) (Kt : PUnit → sProp 𝕄) :
    iprop(recs Y K ∗ levAts L lv ∗ (sigSt c 0 ∗ cred (tallyAt (barCell c) () 15) ∗ atPos ER (barCell c) 0 ∅ 0) ∗ rowAny c c ∗ bigSep Finset.univ (sendTok c)
        ∗ owns (c : Thread nD τ) arg2 q₂ xv ∗ owns (c : Thread nD τ) arg3 q₃ wv)
      ⊢ iprop(((midSt c 0 ∗ atPos ER (barCell c) 1 ∅ 0 ∗ rowAt c c (Y c c) ∗ owns (c : Thread nD τ) arg2 q₂ xv ∗ owns (c : Thread nD τ) arg3 q₃ wv) -∗ Kt ⟨⟩)
        -∗ wp frame (wpE (defs₀ (F := F)) 𝒱₀ (c : Thread nD τ) none) Set.univ
          (cc0_body i (Memref.whole main_v8) h1 arg2 harg2 arg3 harg3 outM h4 comM h5 cc0_scratch1 cc0_scratch2) Kt) := by
  simp only [cc0_body_eq_skeleton]; unfold cc0_body_skel
  simp only [dif_pos (cond1_first i hi), dif_pos (cond2_first i hi), dif_neg (cond3_first i hi), dif_neg (cond4_first i hi)]
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  iintro ⟨#HR, #Hlev, ⟨Hs, Hc, Hat⟩, Hrow, Htok, Hx, Hw⟩ Hk
  iapply (sig_step Y K c 0 (dev1_eq c _) rfl (a := 0) (b := 1) rfl rfl) $$ [Hs]
  · isplitr
    · iexact HR
    iexact Hs
  iintro Hs
  iapply (sig_step Y K c 1 (dev2_eq c _) rfl (a := 1) (b := 2) rfl rfl) $$ [Hs]
  · isplitr
    · iexact HR
    iexact Hs
  iintro Hs
  iapply (sig_step Y K c 2 (dev3_eq c _) rfl (a := 2) (b := 3) rfl rfl) $$ [Hs]
  · isplitr
    · iexact HR
    iexact Hs
  iintro Hs
  iapply (sig_step Y K c 3 (dev4_eq c _) rfl (a := 3) (b := 4) rfl rfl) $$ [Hs]
  · isplitr
    · iexact HR
    iexact Hs
  iintro Hs
  iapply (sig_step Y K c 4 (dev5_eq c _) rfl (a := 4) (b := 5) rfl rfl) $$ [Hs]
  · isplitr
    · iexact HR
    iexact Hs
  iintro Hs
  iapply (sig_step Y K c 5 (dev6_eq c _) rfl (a := 5) (b := 6) rfl rfl) $$ [Hs]
  · isplitr
    · iexact HR
    iexact Hs
  iintro Hs
  iapply (sig_step Y K c 6 (dev7_eq c _) rfl (a := 6) (b := 7) rfl rfl) $$ [Hs]
  · isplitr
    · iexact HR
    iexact Hs
  iintro Hs
  iapply (sig_step Y K c 7 (dev8_eq c _) rfl (a := 7) (b := 8) rfl rfl) $$ [Hs]
  · isplitr
    · iexact HR
    iexact Hs
  iintro Hs
  iapply (sig_step Y K c 8 (dev9_eq c _) rfl (a := 8) (b := 9) rfl rfl) $$ [Hs]
  · isplitr
    · iexact HR
    iexact Hs
  iintro Hs
  iapply (sig_step Y K c 9 (dev10_eq c _) rfl (a := 9) (b := 10) rfl rfl) $$ [Hs]
  · isplitr
    · iexact HR
    iexact Hs
  iintro Hs
  iapply (sig_step Y K c 10 (dev11_eq c _) rfl (a := 10) (b := 11) rfl rfl) $$ [Hs]
  · isplitr
    · iexact HR
    iexact Hs
  iintro Hs
  iapply (sig_step Y K c 11 (dev12_eq c _) rfl (a := 11) (b := 12) rfl rfl) $$ [Hs]
  · isplitr
    · iexact HR
    iexact Hs
  iintro Hs
  iapply (sig_step Y K c 12 (dev13_eq c _) rfl (a := 12) (b := 13) rfl rfl) $$ [Hs]
  · isplitr
    · iexact HR
    iexact Hs
  iintro Hs
  iapply (sig_step Y K c 13 (dev14_eq c _) rfl (a := 13) (b := 14) rfl rfl) $$ [Hs]
  · isplitr
    · iexact HR
    iexact Hs
  iintro Hs
  iapply (sig_step Y K c 14 (dev15_eq c _) rfl (a := 14) (b := 15) rfl rfl) $$ [Hs]
  · isplitr
    · iexact HR
    iexact Hs
  iintro Hs
  iapply (bar_wait Y K c rfl) $$ [Hs Hc Hat]
  · isplitr; · iexact HR
    isplitr; · iexact Hlev
    isplitl [Hs]; · iexact Hs
    isplitl [Hc] <;> iassumption
  iintro ⟨HO, Hat, Hrows⟩
  iapply (all_load c arg2) $$ Hx
  iintro Hx
  iapply (all_load c arg3) $$ Hw
  iintro Hw
  iapply (row_load c c (off2_eq c)) $$ Hrow
  iintro Hrow %_
  iapply (row_store c c (off2_eq c)) $$ Hrow
  iintro Hrow
  rw [wp_ret]; imodintro
  iapply Hk
  isplitl [HO Hrows Htok]
  · unfold midSt
    rw [from_zero, upto_zero, bigSep_sep']
    isplitl [HO]; · iexact HO
    isplitl [Hrows Htok]
    · isplitl [Htok]; · iexact Htok
      iexact Hrows
    rw [bigSep_empty]; iempintro
  isplitl [Hat]; · iexact Hat
  isplitl [Hrow]; · rw [hY]; iexact Hrow
  isplitl [Hx] <;> iassumption

end Body

end Cert.KernelIdeal.A2A
-- ==== Proof.KernelIdeal.BodyLast.lean ====
/-
  The kernel's body at the last grid point: the last copy, then the waits that close every peer.
-/
module

public import proofs.«01_k».proof.Proof.KernelIdeal.Body

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (Y : Prods F) (K : GSem nD τ sig → ℕ)

/-- Any row block, and any slot, takes the same number of units. -/
theorem row_credit {o₂ : Fin 2 → ℕ} (i₂) (g₂) : (outM.slice (Rect.unit (s := S8192x256) o₂ S512x256.size i₂) g₂).view.dmaCredit = N := rfl
theorem credit_comm (b : Fin (sig.nBuf (Kind.tc.table .vmem))) : sig.dmaCredit .tc (Kind.tc.table .vmem) b S512x256 .bf16 = N := by
  revert b; decide +kernel
theorem slot_credit {o₃ : Fin 3 → ℕ} (i₃) (g₃) (h) :
    ((comM.slice (Rect.unit (s := S15x512x256) o₃ S1x512x256.size i₃) g₃).squeeze S512x256 h).view.dmaCredit = N := credit_comm _

/-- The two waits that close peer `t`, as the program writes them. -/
theorem drain_at (c : Dev nD) (t : Fin 15) {a b : ℕ} (ha : a = t.val) (hb : b = t.val + 1) {o₁ : Fin 1 → ℕ} (ho₁ : o₁ = ![t.val])
    {o₂ : Fin 2 → ℕ} (ho₂ : o₂ = ![0, 0]) {o₃ : Fin 3 → ℕ} (ho₃ : o₃ = ![t.val, 0, 0]) {i₁ i₂ i₃ g₂ g₃ w₁ w₂ w₃ w₄}
    {α : Type} {Q : α → sProp 𝕄} {k : PUnit → Prog (TpuEff nD τ sig (Elt F) Λ₀ .tc) α} :
    iprop(recs Y K ∗ drainSt Y c a)
      ⊢ iprop((drainSt Y c b -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ((cc0_scratch1.slice (Rect.unit (s := S15) o₁ S1.size i₁)).squeeze S_ squeezes_S1_S_).sem
                  (outM.slice (Rect.unit (s := S8192x256) o₂ S512x256.size i₂) g₂)
                  ((comM.slice (Rect.unit (s := S15x512x256) o₃ S1x512x256.size i₃) g₃).squeeze S512x256 squeezes_S1x512x256_S512x256) w₁ w₂) fun _ =>
                .op (.waitDma2 ((cc0_scratch2.slice (Rect.unit (s := S15) o₁ S1.size i₁)).squeeze S_ squeezes_S1_S_).sem
                  ((comM.slice (Rect.unit (s := S15x512x256) o₃ S1x512x256.size i₃) g₃).squeeze S512x256 squeezes_S1x512x256_S512x256)
                  (outM.slice (Rect.unit (s := S8192x256) o₂ S512x256.size i₂) g₂) w₃ w₄) k) Q) := by
  exact drain_step Y K c t ha hb (sendS_eq t ho₁ _) (recvS_eq t ho₁ _) (row_credit _ _) (slot_credit _ _ _)

section Body

variable (c : Dev nD) (i : grid0.Coords) {q q₂ q₃ : PosShare TreeShare}
  (arg2 : Memref sig .tc .vmem S512x8192 .bf16) (harg2 : arg2.IsWhole) (arg3 : Memref sig .tc .vmem S8192x256 .bf16) (harg3 : arg3.IsWhole)
  (h1 : (Memref.whole main_v8 : Memref sig .tc .smem S16 .i32).IsWhole) (h4 : outM.IsWhole) (h5 : comM.IsWhole)
  {xv : Vec F S512x8192 .bf16} {wv : Vec F S8192x256 .bf16}

set_option maxHeartbeats 8000000 in
theorem body_last (hi : (i 0).val = 15) (hY : Y c (nxt c 14) = k0_pay1 xv wv) (Kt : PUnit → sProp 𝕄) :
    iprop(recs Y K ∗ (midSt c 14 ∗ bigSep Finset.univ (drainRes c)) ∗ ((c : Thread nD τ).loc main_v8 ↦{q} (tab c)) ∗ owns (c : Thread nD τ) arg2 q₂ xv ∗ owns (c : Thread nD τ) arg3 q₃ wv)
      ⊢ iprop((((∃ W, owes (c : Thread nD τ) 0 W) ∗ bigSep Finset.univ (doneRes Y c) ∗ ((c : Thread nD τ).loc main_v8 ↦{q} (tab c)) ∗ owns (c : Thread nD τ) arg2 q₂ xv ∗ owns (c : Thread nD τ) arg3 q₃ wv) -∗ Kt ⟨⟩)
        -∗ wp frame (wpE (defs₀ (F := F)) 𝒱₀ (c : Thread nD τ) none) Set.univ
          (cc0_body i (Memref.whole main_v8) h1 arg2 harg2 arg3 harg3 outM h4 comM h5 cc0_scratch1 cc0_scratch2) Kt) := by
  simp only [cc0_body_eq_skeleton]; unfold cc0_body_skel
  have hi' : (i 0).val = (14 : Fin 15).val + 1 := hi
  simp only [dif_neg (cond1_later i 14 hi'), dif_neg (cond2_later i 14 hi'), dif_pos (cond3_later i 14 hi'), dif_pos (cond4_last i hi)]
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part7_skel k0_part8_skel k0_part9_skel k0_part10_skel k0_part11_skel k0_part12_skel k0_part13_skel k0_part14_skel k0_part15_skel k0_part16_skel k0_part17_skel k0_part18_skel
  simp only [smemLoad, smemLoadElt, Prog.lift, Prog.bind_op, Prog.bind_ret, Prog.pure_eq_ret, Prog.bind_assoc, wp_deviceId]
  unfold midSt
  rw [show from_ 14 = from_ (14 : Fin 15).val from rfl, bigSep_from, show from_ ((14 : Fin 15).val + 1) = ∅ from from_end]
  unfold sendTok
  iintro ⟨#HR, ⟨⟨HO, ⟨⟨⟨Htok, Hslot⟩, Hrow⟩, -⟩, Hcr⟩, Hd⟩, Htab, Hx, Hw⟩ Hk
  iapply (all_load c arg2) $$ Hx
  iintro Hx
  iapply (all_load c arg3) $$ Hw
  iintro Hw
  iapply (slot_load c 14 (off3_eq i 14 hi')) $$ Hslot
  iintro Hslot %_
  iapply (slot_store c 14 (off3_eq i 14 hi')) $$ Hslot
  iintro Hslot
  iapply (tab_load c 14 (off4_eq i 14 hi')) $$ Htab
  iintro Htab
  simp only [wp_assume_of _ _ _ _ (d := k0_chk1.dec _ _) (chk1_word i (nxt c 14))]
  rw [← hY]
  iapply (send_step Y K c 14 (Fin.ext (dev16_word (nxt c 14))) (slotQ_eq 14 (off7_eq i 14 hi') _ _ _) (rowM_eq c (off6_eq c) _ _)
    (sendS_eq 14 (off5_eq i 14 hi') _) (recvS_eq 14 (off5_eq i 14 hi') _)) $$ [Hslot HO Htok Hrow]
  · isplitr; · iexact HR
    isplitl [Hslot]; · iexact Hslot
    isplitl [HO]; · iexact HO
    isplitl [Htok] <;> iassumption
  iintro ⟨Hc, HO⟩
  ihave Hs := (drain_start Y c) $$ [HO Hc Hcr Hd]
  · isplitl [HO]; · iexact HO
    isplitl [Hc]; · iexact Hc
    isplitl [Hcr] <;> iassumption
  iapply (drain_at Y K c 0 (a := 0) (b := 1) rfl rfl rfl rfl rfl) $$ [Hs]
  · isplitr
    · iexact HR
    iexact Hs
  iintro Hs
  iapply (drain_at Y K c 1 (a := 1) (b := 2) rfl rfl rfl rfl rfl) $$ [Hs]
  · isplitr
    · iexact HR
    iexact Hs
  iintro Hs
  iapply (drain_at Y K c 2 (a := 2) (b := 3) rfl rfl rfl rfl rfl) $$ [Hs]
  · isplitr
    · iexact HR
    iexact Hs
  iintro Hs
  iapply (drain_at Y K c 3 (a := 3) (b := 4) rfl rfl rfl rfl rfl) $$ [Hs]
  · isplitr
    · iexact HR
    iexact Hs
  iintro Hs
  iapply (drain_at Y K c 4 (a := 4) (b := 5) rfl rfl rfl rfl rfl) $$ [Hs]
  · isplitr
    · iexact HR
    iexact Hs
  iintro Hs
  iapply (drain_at Y K c 5 (a := 5) (b := 6) rfl rfl rfl rfl rfl) $$ [Hs]
  · isplitr
    · iexact HR
    iexact Hs
  iintro Hs
  iapply (drain_at Y K c 6 (a := 6) (b := 7) rfl rfl rfl rfl rfl) $$ [Hs]
  · isplitr
    · iexact HR
    iexact Hs
  iintro Hs
  iapply (drain_at Y K c 7 (a := 7) (b := 8) rfl rfl rfl rfl rfl) $$ [Hs]
  · isplitr
    · iexact HR
    iexact Hs
  iintro Hs
  iapply (drain_at Y K c 8 (a := 8) (b := 9) rfl rfl rfl rfl rfl) $$ [Hs]
  · isplitr
    · iexact HR
    iexact Hs
  iintro Hs
  iapply (drain_at Y K c 9 (a := 9) (b := 10) rfl rfl rfl rfl rfl) $$ [Hs]
  · isplitr
    · iexact HR
    iexact Hs
  iintro Hs
  iapply (drain_at Y K c 10 (a := 10) (b := 11) rfl rfl rfl rfl rfl) $$ [Hs]
  · isplitr
    · iexact HR
    iexact Hs
  iintro Hs
  iapply (drain_at Y K c 11 (a := 11) (b := 12) rfl rfl rfl rfl rfl) $$ [Hs]
  · isplitr
    · iexact HR
    iexact Hs
  iintro Hs
  iapply (drain_at Y K c 12 (a := 12) (b := 13) rfl rfl rfl rfl rfl) $$ [Hs]
  · isplitr
    · iexact HR
    iexact Hs
  iintro Hs
  iapply (drain_at Y K c 13 (a := 13) (b := 14) rfl rfl rfl rfl rfl) $$ [Hs]
  · isplitr
    · iexact HR
    iexact Hs
  iintro Hs
  iapply (drain_at Y K c 14 (a := 14) (b := 15) rfl rfl rfl rfl rfl) $$ [Hs]
  · isplitr
    · iexact HR
    iexact Hs
  iintro Hs
  unfold drainSt
  rw [upto_end]
  icases Hs with ⟨HO, -, Hdone⟩
  rw [wp_ret]; imodintro
  iapply Hk
  isplitl [HO]; · iexact HO
  isplitl [Hdone]; · iexact Hdone
  isplitl [Htab]; · iexact Htab
  isplitl [Hx] <;> iassumption

end Body

end Cert.KernelIdeal.A2A
-- ==== Proof.KernelIdeal.Loop.lean ====
/-
  What the pipeline does at each turn of its loop: which copies it starts, which it waits for, and with which staging
  buffers it runs the body.
-/
module

public import proofs.«01_k».proof.Proof.KernelIdeal.BodyLast

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The table, and the block of the weights at a point -/

/-- The prefetched tables of device `c`: the one table `tab c`. -/
def tabs (c : Dev nD) : pre0.Contents (Elt F) := fun | 0 => tab c | ⟨_ + 1, h⟩ => absurd h (Nat.not_lt.2 (Nat.le_add_left _ _))

/-- The device whose columns device `c` computes at point `j`. -/
def peer (c : Dev nD) (j : ℕ) : Dev nD := ⟨(c.val + j) % 16, Nat.mod_lt _ (by decide)⟩

theorem peer_zero (c : Dev nD) : peer c 0 = c := Fin.ext (Nat.mod_eq_of_lt c.isLt)
theorem peer_succ (c : Dev nD) (t : Fin 15) : peer c (t.val + 1) = nxt c t := rfl

theorem index1 (c : Dev nD) (i : grid0.Coords) :
    cc0_transform_1 (F := F) k0_off1_inb numel1_S1 (tabs c) i = ![0, (peer c (i 0).val).val] := by
  have h16 : (i 0).val < 16 := (i 0).isLt
  have e : (tabs (F := F) c).at 0 (Rect.unit (s := S16) ![(Scalar.indexCast (BitVec.ofNat 32 (i 0).val)).toNat] S1.size (k0_off1_inb i)) numel1_S1
      = BitVec.ofNat 32 ((c.val + (i 0).val) % 16) := by
    show BitVec.ofNat 32 ((c.val + _) % 16) = _
    congr 3
    have e₁ : (Scalar.indexCast (BitVec.ofNat 32 (i 0).val)).toNat = (i 0).val := by
      generalize (i 0).val = n at h16; revert n; decide
    have e₂ : ∀ m : ℕ, m < 1 → (Scalar.indexCast (BitVec.ofNat 32 (i 0).val)).toNat + 1 * m = (i 0).val := fun m hm => by omega
    exact e₂ _ (Fin.isLt _)
  unfold cc0_transform_1
  dsimp only
  rw [e]
  have : (BitVec.ofNat 32 ((c.val + (i 0).val) % 16)).toNat = (peer c (i 0).val).val := by
    rw [BitVec.toNat_ofNat]; show _ % _ = (c.val + (i 0).val) % 16; omega
  rw [this]; rfl

theorem tabs_ok (c : Dev nD) : ok0 (F := F) (tabs c) := by
  intro i
  rw [index1]
  generalize peer c (i 0).val = d
  have hd : d.val < 16 := d.isLt
  exact ⟨Fin.forall_fin_two.2 ⟨by show (0 + 1) * 8192 ≤ 8192; omega, by show (d.val + 1) * 256 ≤ 4096; omega⟩, Or.inr (Or.inr ⟨(by decide),
    rfl,
    Nat.zero_mul _,
    rfl⟩)⟩

/-- The tables of device `c`, admissible. -/
def adm (c : Dev nD) : (pcfg0 (F := F)).Adm := ⟨tabs c, tabs_ok c⟩

/-! ## When a window's copy is made -/

theorem N16 : grid0.N = 16 := by decide
/-- Point `n` of the grid. -/
abbrev pt (n : ℕ) (h : n < 16) : Fin grid0.N := ⟨n, h.trans_eq N16.symm⟩
theorem coords_pt (u : Fin grid0.N) : (grid0.coords u 0).val = u.val := by revert u; decide

variable (c : Dev nD)

theorem fetch0 (u : Fin grid0.N) : (win0 (adm (F := F) c) 0).fetch u = decide (u.val = 0) := by
  show (true && (decide (u.val = 0) || decide (∃ h : 0 < u.val, cc0_transform_0 (grid0.coords u) ≠ cc0_transform_0 (grid0.coords ⟨u.val - 1, by omega⟩)))) = _
  have : ¬∃ h : 0 < u.val, cc0_transform_0 (grid0.coords u) ≠ cc0_transform_0 (grid0.coords ⟨u.val - 1, by omega⟩) := fun ⟨_, h⟩ => h rfl
  rw [decide_eq_false this, Bool.or_false, Bool.true_and]
theorem fetch1 (u : Fin grid0.N) : (win0 (adm (F := F) c) 1).fetch u = true := by
  show (true && (decide (u.val = 0) || decide (∃ h : 0 < u.val,
    cc0_transform_1 (F := F) k0_off1_inb numel1_S1 (tabs c) (grid0.coords u) ≠ cc0_transform_1 (F := F) k0_off1_inb numel1_S1 (tabs c) (grid0.coords ⟨u.val - 1, by omega⟩)))) = _
  by_cases h0 : u.val = 0
  · rw [decide_eq_true h0, Bool.true_or, Bool.true_and]
  · have h : ∃ h : 0 < u.val,
      cc0_transform_1 (F := F) k0_off1_inb numel1_S1 (tabs c) (grid0.coords u) ≠ cc0_transform_1 (F := F) k0_off1_inb numel1_S1 (tabs c) (grid0.coords ⟨u.val - 1, by omega⟩) := by
      refine ⟨by omega, fun h => ?_⟩
      rw [index1, index1, coords_pt, coords_pt] at h
      have h' : (c.val + u.val) % 16 = (c.val + (u.val - 1)) % 16 := congrFun h 1
      have := u.isLt.trans_eq N16
      omega
    rw [decide_eq_true h, Bool.or_true, Bool.true_and]
theorem flush2 (u : Fin grid0.N) : (win0 (adm (F := F) c) 2).flush u = decide (u.val = 15) := by
  show (true && (decide (u.val + 1 = grid0.N) || decide (∃ h : u.val + 1 < grid0.N, cc0_transform_2 (grid0.coords ⟨u.val + 1, h⟩) ≠ cc0_transform_2 (grid0.coords u)))) = _
  have : ¬∃ h : u.val + 1 < grid0.N, cc0_transform_2 (grid0.coords ⟨u.val + 1, h⟩) ≠ cc0_transform_2 (grid0.coords u) := fun ⟨_, h⟩ => h rfl
  rw [decide_eq_false this, Bool.or_false, Bool.true_and]
  have hN := N16
  exact decide_eq_decide.2 (by omega)

theorem slot1 (u : Fin grid0.N) : (win0 (adm (F := F) c) 1).slot u.val u.isLt = (⟨u.val % 2, Nat.mod_lt _ (by decide)⟩ : Fin 2) := by
  obtain ⟨n, h⟩ := u
  induction n with
  | zero => rfl
  | succ n ih =>
    have hf := fetch1 (F := F) c ⟨n + 1, h⟩
    have ih' := ih (Nat.lt_of_succ_lt h)
    unfold Pipeline.Window.slot
    rw [if_pos (show (if (win0 (adm (F := F) c) 1).isOut then _ else (win0 (adm (F := F) c) 1).fetch ⟨n + 1, h⟩) = true from hf)]
    have hv : ((win0 (adm (F := F) c) 1).slot n (Nat.lt_of_succ_lt h)).val = n % 2 := congrArg Fin.val ih'
    exact Fin.ext (by show (((win0 (adm (F := F) c) 1).slot n (Nat.lt_of_succ_lt h)).val + 1) % 2 = (n + 1) % 2; omega)

/-- The programs of the loop. -/
abbrev LoopProg (F : FTy → Type) [FloatOps F] : Type 1 :=
  Prog (TpuEff nD τ sig (Elt F) (Pipeline.Sig Λ₀ (Fin 1) fun p => (pcfgs (F := F) p).Adm) Proc.tc) PUnit

section
variable (a : (pcfg0 (F := F)).Adm)

theorem eachWin3 (p : Fin 3 → Bool) (f : Fin 3 → LoopProg F → LoopProg F) (k : LoopProg F) :
    (cfg0 a).eachWin p f k
      = (if p 0 then f 0 (if p 1 then f 1 (if p 2 then f 2 k else k) else (if p 2 then f 2 k else k))
          else (if p 1 then f 1 (if p 2 then f 2 k else k) else (if p 2 then f 2 k else k))) := by
  unfold Pipeline.Cfg.eachWin
  show (List.finRange 3).foldr _ k = _
  rw [show List.finRange 3 = [0, 1, 2] by decide]
  simp only [List.foldr_cons, List.foldr_nil]
theorem atPoint_some {ℓ d : ℕ} (h : d ≤ ℓ ∧ ℓ - d < grid0.N) (f : Fin grid0.N → LoopProg F → LoopProg F) (k : LoopProg F) :
    (cfg0 a).atPoint ℓ d f k = f ⟨ℓ - d, h.2⟩ k := by
  unfold Pipeline.Cfg.atPoint Pipeline.Cfg.point; rw [dif_pos (show d ≤ ℓ ∧ ℓ - d < (cfg0 a).N from h)]
theorem atPoint_none {ℓ d : ℕ} (h : ¬(d ≤ ℓ ∧ ℓ - d < grid0.N)) (f : Fin grid0.N → LoopProg F → LoopProg F) (k : LoopProg F) :
    (cfg0 a).atPoint ℓ d f k = k := by
  unfold Pipeline.Cfg.atPoint Pipeline.Cfg.point; rw [dif_neg (show ¬(d ≤ ℓ ∧ ℓ - d < (cfg0 a).N) from h)]
theorem prologue_eq : (cfg0 a).prologue = 1 := by
  unfold Pipeline.Cfg.prologue Pipeline.Cfg.hasInput
  rw [decide_eq_true (show ∃ w : Fin 3, (win0 a w).isOut = false from ⟨0, rfl⟩)]; rfl
theorem trip_eq : (cfg0 a).tripCount = 18 := by
  unfold Pipeline.Cfg.tripCount Pipeline.Cfg.epilogue Pipeline.Cfg.hasOutput
  rw [prologue_eq, decide_eq_true (show ∃ w : Fin 3, (win0 a w).isOut = true from ⟨2, rfl⟩)]
  exact congrArg (· + 1 + 1) N16

/-- The copy of window `w`'s block at point `u` into its staging buffer, then `k`. -/
def start (w : Fin 3) (u : Fin grid0.N) (k : LoopProg F) : LoopProg F := .op ((cfg0 a).startIn w u) fun _ => k
/-- The wait for it, then `k`. -/
def await (w : Fin 3) (u : Fin grid0.N) (k : LoopProg F) : LoopProg F := .op ((cfg0 a).waitIn w u) fun _ => k
/-- The copy of window `w`'s staging buffer back at point `u` and the wait for it, then `k`. -/
def writeBack (w : Fin 3) (u : Fin grid0.N) (k : LoopProg F) : LoopProg F :=
  .op ((cfg0 a).startOut w u) fun _ => .op ((cfg0 a).waitOut w u) fun _ => k
/-- The body at point `u`, then `k`. -/
def bodyAt (u : Fin grid0.N) (k : LoopProg F) : LoopProg F :=
  .op (.call (Pipeline.kernel (cfg0 a).body) ((cfg0 a).bodyArgs u ((cfg0 a).slots u))) fun _ => k
/-- The next turn of the loop. -/
def again (ℓ : ℕ) : LoopProg F := .op (.call (Pipeline.pipe 0) (a, ℓ)) fun _ => .ret ⟨⟩
/-- A turn of the loop. -/
def turn (ℓ : ℕ) : LoopProg F := (cfg0 a).iter 0 a ℓ

theorem single0 : (win0 a 0).single = true := rfl
theorem single1 : (win0 a 1).single = false := rfl
theorem single2 : (win0 a 2).single = true := rfl
theorem fetch2 (u : Fin grid0.N) : (win0 a 2).fetch u = false := rfl
theorem flush0 (u : Fin grid0.N) : (win0 a 0).flush u = false := rfl
theorem flush1 (u : Fin grid0.N) : (win0 a 1).flush u = false := rfl
end

/-! Each group of copies or waits at a point, window by window. -/

theorem group_single (u : Fin grid0.N) (k : LoopProg F) :
    (cfg0 (adm (F := F) c)).eachWin (fun w => (win0 (adm (F := F) c) w).single && (win0 (adm (F := F) c) w).fetch u) (fun w => (cfg0 (adm c)).fetchIn w u) k
      = if u.val = 0 then start (adm c) 0 u k else k := by
  rw [eachWin3]
  rw [fetch0, fetch2, single0, single1]
  by_cases h : u.val = 0
  · rw [if_pos h, decide_eq_true h]; rfl
  · rw [if_neg h, decide_eq_false h]; rfl
theorem group_double (u : Fin grid0.N) (k : LoopProg F) :
    (cfg0 (adm (F := F) c)).eachWin (fun w => !(win0 (adm (F := F) c) w).single && (win0 (adm (F := F) c) w).fetch u) (fun w => (cfg0 (adm c)).fetchIn w u) k
      = start (adm c) 1 u k := by
  rw [eachWin3, fetch1, fetch2, single0, single1]
  rfl
theorem group_wait (u : Fin grid0.N) (k : LoopProg F) :
    (cfg0 (adm (F := F) c)).eachWin (fun w => (win0 (adm (F := F) c) w).fetch u) (fun w k => .op ((cfg0 (adm c)).waitIn w u) fun _ => k) k
      = if u.val = 0 then await (adm c) 0 u (await (adm c) 1 u k) else await (adm c) 1 u k := by
  rw [eachWin3, fetch0, fetch1, fetch2]
  by_cases h : u.val = 0
  · rw [if_pos h, decide_eq_true h]; rfl
  · rw [if_neg h, decide_eq_false h]; rfl
theorem group_out (u : Fin grid0.N) (k : LoopProg F) :
    (cfg0 (adm (F := F) c)).eachWin (fun w => (win0 (adm (F := F) c) w).flush u) (fun w k => .op ((cfg0 (adm c)).startOut w u) fun _ => k) k
      = if u.val = 15 then .op ((cfg0 (adm (F := F) c)).startOut 2 u) fun _ => k else k := by
  rw [eachWin3, flush0, flush1, flush2]
  by_cases h : u.val = 15
  · rw [if_pos h, decide_eq_true h]; rfl
  · rw [if_neg h, decide_eq_false h]; rfl
theorem group_outWait (u : Fin grid0.N) (k : LoopProg F) :
    (cfg0 (adm (F := F) c)).eachWin (fun w => (win0 (adm (F := F) c) w).single && (win0 (adm (F := F) c) w).flush u) (fun w k => .op ((cfg0 (adm c)).waitOut w u) fun _ => k) k
      = if u.val = 15 then .op ((cfg0 (adm (F := F) c)).waitOut 2 u) fun _ => k else k := by
  rw [eachWin3, flush0, flush1, flush2, single0, single1, single2]
  by_cases h : u.val = 15
  · rw [if_pos h, decide_eq_true h]; rfl
  · rw [if_neg h, decide_eq_false h]; rfl
theorem group_late (u : Fin grid0.N) (k : LoopProg F) :
    (cfg0 (adm (F := F) c)).eachWin (fun w => !(win0 (adm (F := F) c) w).single && (win0 (adm (F := F) c) w).flush u) (fun w k => .op ((cfg0 (adm c)).waitOut w u) fun _ => k) k
      = k := by
  rw [eachWin3, flush0, flush1, single2]
  rfl

theorem turn_zero : turn (adm (F := F) c) 0 = start (adm c) 1 (pt 0 (by decide)) (again (adm c) 1) := by
  unfold turn Pipeline.Cfg.iter
  rw [prologue_eq, trip_eq]
  rw [atPoint_none _ (by decide), atPoint_some _ (by decide), atPoint_none _ (by decide), atPoint_none _ (by decide)]
  rw [group_double]
  rfl

theorem turn_one : turn (adm (F := F) c) 1
    = start (adm c) 0 (pt 0 (by decide)) (start (adm c) 1 (pt 1 (by decide)) (await (adm c) 0 (pt 0 (by decide)) (await (adm c) 1 (pt 0 (by decide))
        (bodyAt (adm c) (pt 0 (by decide)) (again (adm c) 2))))) := by
  unfold turn Pipeline.Cfg.iter
  rw [prologue_eq, trip_eq]
  rw [atPoint_some _ (by decide), atPoint_some _ (by decide), atPoint_some _ (by decide), atPoint_none _ (by decide)]
  rw [group_single, group_double, group_wait, if_pos rfl, if_pos rfl]
  rw [group_out, group_outWait, if_neg (by decide), if_neg (by decide)]
  rfl

theorem turn_mid (n : ℕ) (h0 : 0 < n) (h : n + 1 < 16) : turn (adm (F := F) c) (n + 1)
    = start (adm c) 1 (pt (n + 1) h) (await (adm c) 1 (pt n (by omega)) (bodyAt (adm c) (pt n (by omega)) (again (adm c) (n + 2)))) := by
  unfold turn Pipeline.Cfg.iter
  rw [prologue_eq, trip_eq]
  have hN := N16
  rw [atPoint_some _ (by omega), atPoint_some _ (by omega), atPoint_some _ (by omega), atPoint_some _ (by omega)]
  rw [group_single, group_double, group_wait, if_neg (by show ¬(n + 1 - 1 = 0); omega), if_neg (by show ¬(n + 1 - 1 = 0); omega)]
  rw [group_out, group_outWait, group_late, if_neg (by show ¬(n + 1 - 1 = 15); omega), if_neg (by show ¬(n + 1 - 1 = 15); omega)]
  rw [if_pos (show n + 1 + 1 < 18 by omega)]
  rfl

theorem turn_last : turn (adm (F := F) c) 16
    = await (adm c) 1 (pt 15 (by decide)) (bodyAt (adm c) (pt 15 (by decide)) (writeBack (adm c) 2 (pt 15 (by decide)) (again (adm c) 17))) := by
  unfold turn Pipeline.Cfg.iter
  rw [prologue_eq, trip_eq]
  rw [atPoint_some _ (by decide), atPoint_none _ (by decide), atPoint_some _ (by decide), atPoint_some _ (by decide)]
  rw [group_single, group_wait, if_neg (by decide), if_neg (by decide)]
  rw [group_out, group_outWait, group_late, if_pos (by rfl), if_pos (by rfl)]
  rfl

theorem turn_end : turn (adm (F := F) c) 17 = .ret ⟨⟩ := by
  unfold turn Pipeline.Cfg.iter
  rw [prologue_eq, trip_eq]
  rw [atPoint_none _ (by decide), atPoint_none _ (by decide), atPoint_none _ (by decide), atPoint_some _ (by decide)]
  rw [group_late]
  rfl

end Cert.KernelIdeal.A2A
-- ==== Proof.KernelIdeal.Stage.lean ====
/-
  The pipeline's own copies: a block of the operands fetched into a staging buffer, the wait for it, and the body run on
  what has been fetched.
-/
module

public import proofs.«01_k».proof.Proof.KernelIdeal.Loop

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (c : Dev nD)

/-- The loop's programs on device `c`, entered below `bd`. -/
abbrev lwp (bd : Option 𝒱₀.lift.V) {α : Type}
    (p : Prog (TpuEff nD τ sig (Elt F) (Pipeline.Sig Λ₀ (Fin 1) fun p => (pcfgs (F := F) p).Adm) Proc.tc) α) (Q : α → sProp 𝕄) : sProp 𝕄 :=
  wp frame (wpE (defs (F := F)) 𝒱₀.lift (c : Thread nD τ) bd) Set.univ p Q

section Whole
variable {sp : Space} {s : Shape} {e : EltTy} (m : Memref sig .tc sp s e) (off : Fin s.rank → ℕ) (ho : ∀ a, off a = 0)
  (h : ∀ a, off a + s.size a ≤ s.size a)

include ho in
theorem all_emb (j : s.Idx) : (Rect.unit off s.size h).emb j = j :=
  funext fun a => Fin.ext (by show off a + 1 * (j a).val = (j a).val; rw [ho]; omega)

include ho in
/-- A slice of all of a buffer covers the buffer, -/
theorem all_set : (m.slice (Rect.unit off s.size h) fun _ => rfl).view.set = m.view.set := by
  show (m.view.slice (Rect.unit off s.size h)).set = m.view.set
  rw [View.set_slice, show (Rect.unit off s.size h).set = Finset.univ from
    Finset.eq_univ_iff_forall.2 fun j => by
      rw [Rect.mem_set_unit]
      exact fun a => ⟨by rw [ho]; exact Nat.zero_le _, by rw [ho, Nat.zero_add]; exact (j a).isLt⟩]
  rfl

include ho in
/-- and reads as the buffer does. -/
theorem all_read (f : m.view.ty.Contents (Elt F)) :
    (m.slice (Rect.unit off s.size h) fun _ => rfl).view.read (Elt F) f = m.view.read (Elt F) f :=
  funext fun j => congrArg (m.view.read (Elt F) f) (all_emb off ho h j)

include ho in
theorem all_owns (q : PosShare TreeShare) (X : s.Idx → Elt F e) :
    (owns (c : Thread nD τ) (m.slice (Rect.unit off s.size h) fun _ => rfl) q X : sProp 𝕄) ⊢ owns (c : Thread nD τ) m q X := by
  unfold owns
  rw [all_set m off ho h]
  iintro ⟨%f, %hf, H⟩
  iexists f
  isplitr
  · ipureintro
    rw [← hf, all_read m off ho h]
  iexact H
end Whole

theorem copy_step {sp : Space} {s : Shape} {e : EltTy} (src : Memref sig .tc sp s e) {sp' : Space} (dst : Memref sig .tc sp' s e) (sm : DmaSem sig)
    {hsrc : src.view.WordExact} {hdst : dst.view.WordExact} {hsem : DmaTarget.Typed (nD := nD) sp (.dma sm) (DmaTarget.here (nD := nD) (p := Proc.tc) dst)}
    (hne : 0 < s.numel) (bd : Option 𝒱₀.lift.V) {q : PosShare TreeShare} {fs : Buf (Elt F) (src.view.loc (c : Thread nD τ))} {α : Type} {Q : α → sProp 𝕄}
    {k : PUnit → Prog (TpuEff nD τ sig (Elt F) (Pipeline.Sig Λ₀ (Fin 1) fun p => (pcfgs (F := F) p).Adm) Proc.tc) α} :
    iprop((src.view.loc (c : Thread nD τ) ↦[src.view.set]{q} fs) ∗ (∃ f, dst.view.loc (c : Thread nD τ) ↦[dst.view.set]{fullShare} f) ∗ semVal ((c : Thread nD τ), .dma sm) 0)
      ⊢ iprop((Flight EC (c : Thread nD τ) (.dma sm) () dst.view.dmaCredit
              iprop(owns (c : Thread nD τ) dst fullShare (src.view.read (Elt F) fs) ∗ (src.view.loc (c : Thread nD τ) ↦[src.view.set]{q} fs))
            -∗ lwp c bd (k ⟨⟩) Q)
          -∗ lwp c bd (.op (.enqueueDma src (.here dst) (.dma sm) hsrc hdst hsem) k) Q) := by
  iintro ⟨Hs, ⟨%f, Hd⟩, Hv⟩ Hk
  iapply (wp_dmaLocal EC 𝒱₀.lift (c : Thread nD τ) bd () dst.view.dmaCredit rfl (View.dmaCredit_pos _ hne) (Finset.Subset.refl _)) $$ [Hs Hd Hv]
  · isplitl [Hs]; · iexact Hs
    isplitl [Hd] <;> iassumption
  iintro Hf
  iapply Hk
  iapply (Flight_mono EC (D := iprop((dst.view.loc (c : Thread nD τ) ↦[dst.view.set]{fullShare} (dst.view.write (Elt F) f (src.view.read (Elt F) fs) Finset.univ))
      ∗ (src.view.loc (c : Thread nD τ) ↦[src.view.set]{q} fs)))) $$ Hf
  iintro ⟨Hd, Hs⟩
  isplitl [Hd]
  · iapply (owns_at c dst (View.read_write_univ _ _)) $$ Hd
  iexact Hs

theorem copy_wait {sp : Space} {s : Shape} {e : EltTy} (src : Memref sig .tc sp s e) {sp' : Space} (dst : Memref sig .tc sp' s e) (sm : DmaSem sig)
    (hsm : lvOf (.dma sm) = 0)
    {hsrc : src.view.WordExact} {hdst : dst.view.WordExact} (a b : ℕ) {D : sProp 𝕄}
    (bd : Option 𝒱₀.lift.V) {α : Type} {Q : α → sProp 𝕄}
    {k : PUnit → Prog (TpuEff nD τ sig (Elt F) (Pipeline.Sig Λ₀ (Fin 1) fun p => (pcfgs (F := F) p).Adm) Proc.tc) α} :
    iprop(levAts L lv ∗ Flight EC (c : Thread nD τ) (.dma sm) () dst.view.dmaCredit D ∗ (∃ W, owes (c : Thread nD τ) (owed c a b) W))
      ⊢ iprop((D ∗ semVal ((c : Thread nD τ), .dma sm) 0 ∗ (∃ W, owes (c : Thread nD τ) (owed c a b) W)
            -∗ lwp c bd (k ⟨⟩) Q)
          -∗ lwp c bd (.op (.waitDma2 sm src dst hsrc hdst) k) Q) := by
  iintro ⟨#Hlev, Hf, ⟨%W, HO⟩⟩ Hk
  iapply (wp_waitLocalO EC 𝒱₀.lift (c : Thread nD τ) bd () rfl) $$ [Hf HO]
  · isplitl [Hf]; · iexact Hf
    isplitl [HO]; · iexact HO
    iapply (mayWait_low c (.dma sm) hsm a b) $$ Hlev
  iintro ⟨HD, Hv, HO⟩
  iapply Hk
  isplitl [HD]; · iexact HD
  isplitl [Hv]; · iexact Hv
  iexists _; iexact HO

/-! ## A window's copies -/

theorem start_win (w : Fin 3) (u : Fin grid0.N) (hne : 0 < ((win0 (adm (F := F) c) w).xblock (grid0.coords u)).numel) (bd : Option 𝒱₀.lift.V)
    {q : PosShare TreeShare} (fs : Buf (Elt F) (((win0 (adm (F := F) c) w).blk u).view.loc (c : Thread nD τ))) {k : LoopProg F} {Q : PUnit → sProp 𝕄} :
    iprop((((win0 (adm (F := F) c) w).blk u).view.loc (c : Thread nD τ) ↦[((win0 (adm (F := F) c) w).blk u).view.set]{q} fs)
        ∗ (∃ f, ((win0 (adm (F := F) c) w).stg u ((cfg0 (adm (F := F) c)).slots u w)).view.loc (c : Thread nD τ)
            ↦[((win0 (adm (F := F) c) w).stg u ((cfg0 (adm (F := F) c)).slots u w)).view.set]{fullShare} f)
        ∗ semVal ((c : Thread nD τ), .dma ((win0 (adm (F := F) c) w).sem ((cfg0 (adm (F := F) c)).slots u w))) 0)
      ⊢ iprop((Flight EC (c : Thread nD τ) (.dma ((win0 (adm (F := F) c) w).sem ((cfg0 (adm (F := F) c)).slots u w))) ()
              ((win0 (adm (F := F) c) w).stg u ((cfg0 (adm (F := F) c)).slots u w)).view.dmaCredit
              iprop(owns (c : Thread nD τ) ((win0 (adm (F := F) c) w).stg u ((cfg0 (adm (F := F) c)).slots u w)) fullShare
                  (((win0 (adm (F := F) c) w).blk u).view.read (Elt F) fs)
                ∗ (((win0 (adm (F := F) c) w).blk u).view.loc (c : Thread nD τ) ↦[((win0 (adm (F := F) c) w).blk u).view.set]{q} fs))
            -∗ lwp c bd k Q)
          -∗ lwp c bd (start (adm c) w u k) Q) :=
  copy_step (fs := fs) (k := fun _ => k) (Q := Q) c ((win0 (adm (F := F) c) w).blk u) ((win0 (adm (F := F) c) w).stg u ((cfg0 (adm (F := F) c)).slots u w))
    ((win0 (adm (F := F) c) w).sem ((cfg0 (adm (F := F) c)).slots u w)) hne bd

theorem await_win (w : Fin 3) (u : Fin grid0.N) (hsm : lvOf (.dma ((win0 (adm (F := F) c) w).sem ((cfg0 (adm (F := F) c)).slots u w))) = 0) (a b : ℕ)
    (bd : Option 𝒱₀.lift.V) {D : sProp 𝕄} {k : LoopProg F} {Q : PUnit → sProp 𝕄} :
    iprop(levAts L lv ∗ Flight EC (c : Thread nD τ) (.dma ((win0 (adm (F := F) c) w).sem ((cfg0 (adm (F := F) c)).slots u w))) ()
          ((win0 (adm (F := F) c) w).stg u ((cfg0 (adm (F := F) c)).slots u w)).view.dmaCredit D
        ∗ (∃ W, owes (c : Thread nD τ) (owed c a b) W))
      ⊢ iprop((D ∗ semVal ((c : Thread nD τ), .dma ((win0 (adm (F := F) c) w).sem ((cfg0 (adm (F := F) c)).slots u w))) 0
              ∗ (∃ W, owes (c : Thread nD τ) (owed c a b) W) -∗ lwp c bd k Q)
          -∗ lwp c bd (await (adm c) w u k) Q) :=
  copy_wait (hsrc := (win0 (adm (F := F) c) w).wordExact_blk u) (hdst := (win0 (adm (F := F) c) w).wordExact_stg u _) (D := D) (k := fun _ => k) (Q := Q) c ((win0 (adm (F := F) c) w).blk u) ((win0 (adm (F := F) c) w).stg u ((cfg0 (adm (F := F) c)).slots u w))
    ((win0 (adm (F := F) c) w).sem ((cfg0 (adm (F := F) c)).slots u w)) hsm a b bd

theorem write_win (w : Fin 3) (u : Fin grid0.N) (s : Fin (win0 (adm (F := F) c) w).nbuf) (hs : (cfg0 (adm (F := F) c)).slots u w = s)
    (hne : 0 < ((win0 (adm (F := F) c) w).xblock (grid0.coords u)).numel) (hsm : lvOf (.dma ((win0 (adm (F := F) c) w).sem s)) = 0) (a b : ℕ)
    (bd : Option 𝒱₀.lift.V) (fs : Buf (Elt F) (((win0 (adm (F := F) c) w).stg u s).view.loc (c : Thread nD τ))) {k : LoopProg F} {Q : PUnit → sProp 𝕄} :
    iprop(levAts L lv ∗ ((((win0 (adm (F := F) c) w).stg u s).view.loc (c : Thread nD τ) ↦[((win0 (adm (F := F) c) w).stg u s).view.set]{fullShare} fs)
        ∗ (∃ f, ((win0 (adm (F := F) c) w).blk u).view.loc (c : Thread nD τ) ↦[((win0 (adm (F := F) c) w).blk u).view.set]{fullShare} f)
        ∗ semVal ((c : Thread nD τ), .dma ((win0 (adm (F := F) c) w).sem s)) 0) ∗ (∃ W, owes (c : Thread nD τ) (owed c a b) W))
      ⊢ iprop((owns (c : Thread nD τ) ((win0 (adm (F := F) c) w).blk u) fullShare (((win0 (adm (F := F) c) w).stg u s).view.read (Elt F) fs)
            ∗ (((win0 (adm (F := F) c) w).stg u s).view.loc (c : Thread nD τ) ↦[((win0 (adm (F := F) c) w).stg u s).view.set]{fullShare} fs)
            ∗ semVal ((c : Thread nD τ), .dma ((win0 (adm (F := F) c) w).sem s)) 0 ∗ (∃ W, owes (c : Thread nD τ) (owed c a b) W) -∗ lwp c bd k Q)
          -∗ lwp c bd (writeBack (adm c) w u k) Q) := by
  subst hs
  iintro ⟨#Hl, H, HO⟩ Hk
  unfold writeBack Pipeline.Cfg.startOut Pipeline.Cfg.waitOut
  iapply (copy_step (fs := fs) (Q := Q) c ((win0 (adm (F := F) c) w).stg u ((cfg0 (adm (F := F) c)).slots u w)) ((win0 (adm (F := F) c) w).blk u)
    ((win0 (adm (F := F) c) w).sem ((cfg0 (adm (F := F) c)).slots u w)) hne bd) $$ H
  iintro Hf
  iapply (copy_wait (Q := Q) c ((win0 (adm (F := F) c) w).stg u ((cfg0 (adm (F := F) c)).slots u w)) ((win0 (adm (F := F) c) w).blk u)
    ((win0 (adm (F := F) c) w).sem ((cfg0 (adm (F := F) c)).slots u w)) hsm a b bd) $$ [Hf HO]
  · isplitr; · iexact Hl
    isplitl [Hf] <;> iassumption
  iintro ⟨⟨Hd, Hs⟩, Hv, HO⟩
  iapply Hk
  isplitl [Hd]; · iexact Hd
  isplitl [Hs]; · iexact Hs
  isplitl [Hv]; · iexact Hv
  iexact HO

/-! ## The first operand: fetched once -/

variable (xv : S512x8192.Idx → Elt F .bf16) (wv : S8192x4096.Idx → Elt F .bf16)

/-- The first operand and its staging buffer, before the fetch, -/
def XIdle : sProp 𝕄 :=
  iprop(((c : Thread nD τ).loc main_arg0 ↦{fullShare} xv) ∗ (∃ f, (c : Thread nD τ).loc cc0_stg0_0 ↦{fullShare} f) ∗ semVal ((c : Thread nD τ), .dma cc0_sem0_0) 0)
/-- during it, -/
def XFly : sProp 𝕄 :=
  Flight EC (c : Thread nD τ) (.dma cc0_sem0_0) () (Memref.whole cc0_stg0_0 : Memref sig .tc .vmem S512x8192 .bf16).view.dmaCredit
    iprop(owns (c : Thread nD τ) (stage0_0 0) fullShare xv ∗ ((c : Thread nD τ).loc main_arg0 ↦{fullShare} xv))
/-- and after it. -/
def XHave : sProp 𝕄 :=
  iprop(((c : Thread nD τ).loc main_arg0 ↦{fullShare} xv) ∗ owns (c : Thread nD τ) (stage0_0 0) fullShare xv ∗ semVal ((c : Thread nD τ), .dma cc0_sem0_0) 0)

/-- The first operand's block at a point, all of it, and its staging buffer, as the copy names them. -/
def xSrc (u : Fin grid0.N) : Memref sig .tc .hbm S512x8192 .bf16 :=
  (Memref.whole main_arg0 : Memref sig .tc .hbm S512x8192 .bf16).slice
    (Rect.unit (s := S512x8192) (fun a => cc0_transform_0 (grid0.coords u) a * S512x8192.size a) S512x8192.size
      (fun a => by have := hinb0_0 (grid0.coords u) a; rw [Nat.add_mul, Nat.one_mul] at this; exact this)) fun _ => rfl
def xDst : Memref sig .tc .vmem S512x8192 .bf16 :=
  (Memref.whole cc0_stg0_0 : Memref sig .tc .vmem S512x8192 .bf16).slice (Rect.unit (s := S512x8192) (fun _ => 0) S512x8192.size (fun a => by rw [Nat.zero_add])) fun _ => rfl

theorem xSrc_eq (u : Fin grid0.N) : (win0 (adm (F := F) c) 0).blk u = xSrc u := rfl
theorem xDst_eq (u : Fin grid0.N) (s : Fin 1) : (win0 (adm (F := F) c) 0).stg u s = xDst := by
  rw [Subsingleton.elim s 0]; rfl
theorem xSem_eq (s : Fin 1) : (win0 (adm (F := F) c) 0).sem s = cc0_sem0_0 := by
  rw [Subsingleton.elim s 0]

theorem xSrc_off (u : Fin grid0.N) (a : Fin 2) : cc0_transform_0 (grid0.coords u) a * S512x8192.size a = 0 := by
  match a with
  | 0 => exact Nat.zero_mul _
  | 1 => exact Nat.zero_mul _

theorem xSrc_set (u : Fin grid0.N) : (xSrc u).view.set = Finset.univ :=
  (all_set (Memref.whole main_arg0 : Memref sig .tc .hbm S512x8192 .bf16) _ (xSrc_off u) _).trans (View.set_whole _)
theorem xSrc_read (u : Fin grid0.N) : (xSrc u).view.read (Elt F) xv = xv :=
  all_read (Memref.whole main_arg0 : Memref sig .tc .hbm S512x8192 .bf16) _ (xSrc_off u) _ xv
theorem xDst_set : xDst.view.set = Finset.univ :=
  (all_set (Memref.whole cc0_stg0_0 : Memref sig .tc .vmem S512x8192 .bf16) _ (fun _ => rfl) _).trans (View.set_whole _)
theorem xDst_owns (X : S512x8192.Idx → Elt F .bf16) : (owns (c : Thread nD τ) xDst fullShare X : sProp 𝕄) ⊢ owns (c : Thread nD τ) (stage0_0 0) fullShare X :=
  all_owns c (Memref.whole cc0_stg0_0 : Memref sig .tc .vmem S512x8192 .bf16) _ (fun _ => rfl) _ _ _

theorem start_x (bd : Option 𝒱₀.lift.V) (u : Fin grid0.N) {k : LoopProg F} {Q : PUnit → sProp 𝕄} :
    (XIdle c xv : sProp 𝕄) ⊢ iprop((XFly c xv -∗ lwp c bd k Q) -∗ lwp c bd (start (adm c) 0 u k) Q) := by
  have h := start_win c 0 u (by show 0 < S512x8192.numel; decide) bd (q := fullShare) xv (k := k) (Q := Q)
  rw [xDst_eq c u, xSem_eq c, show ((win0 (adm (F := F) c) 0).blk u).view.set = Finset.univ from xSrc_set u,
    show ((win0 (adm (F := F) c) 0).blk u).view.read (Elt F) xv = xv from xSrc_read xv u, xDst_set] at h
  have h' : iprop(((c : Thread nD τ).loc main_arg0 ↦{fullShare} xv) ∗ (∃ f, (c : Thread nD τ).loc cc0_stg0_0 ↦{fullShare} f) ∗ semVal ((c : Thread nD τ), .dma cc0_sem0_0) 0)
      ⊢ iprop((Flight EC (c : Thread nD τ) (.dma cc0_sem0_0) () xDst.view.dmaCredit
            iprop(owns (c : Thread nD τ) xDst fullShare xv ∗ ((c : Thread nD τ).loc main_arg0 ↦{fullShare} xv)) -∗ lwp c bd k Q)
          -∗ lwp c bd (start (adm c) 0 u k) Q) := h
  unfold XIdle XFly
  iintro H Hk
  iapply h' $$ H
  iintro Hf
  iapply Hk
  iapply (Flight_mono EC (D := iprop(owns (c : Thread nD τ) xDst fullShare xv ∗ ((c : Thread nD τ).loc main_arg0 ↦{fullShare} xv)))) $$ Hf
  iintro ⟨H, Hx⟩
  isplitl [H]
  · iapply (xDst_owns c xv) $$ H
  iexact Hx

theorem await_x (bd : Option 𝒱₀.lift.V) (u : Fin grid0.N) (a b : ℕ) {k : LoopProg F} {Q : PUnit → sProp 𝕄} :
    iprop(levAts L lv ∗ XFly c xv ∗ (∃ W, owes (c : Thread nD τ) (owed c a b) W))
      ⊢ iprop((XHave c xv ∗ (∃ W, owes (c : Thread nD τ) (owed c a b) W) -∗ lwp c bd k Q) -∗ lwp c bd (await (adm c) 0 u k) Q) := by
  have h := await_win c 0 u (by rw [xSem_eq c]; decide) a b bd (D := iprop(owns (c : Thread nD τ) (stage0_0 0) fullShare xv ∗ ((c : Thread nD τ).loc main_arg0 ↦{fullShare} xv))) (k := k) (Q := Q)
  rw [xDst_eq c u, xSem_eq c] at h
  unfold XHave XFly
  iintro H Hk
  iapply h $$ H
  iintro ⟨⟨Hs, Hx⟩, Hv, HO⟩
  iapply Hk
  isplitr [HO]
  · isplitl [Hx]; · iexact Hx
    isplitl [Hs] <;> iassumption
  iexact HO

/-! ## The second operand: a block at each point, in one of two staging buffers -/

/-- Columns `[256·d, 256·d + 256)` of the second operand. -/
def wblk (wv : S8192x4096.Idx → Elt F .bf16) (d : Dev nD) : S8192x256.Idx → Elt F .bf16 :=
  fun x => wv fun | 0 => x 0 | 1 => (⟨d.val * 256 + (x 1).val, by have h₁ : (x 1).val < 256 := (x 1).isLt; have h₂ : d.val < 16 := d.isLt; show _ < 4096; omega⟩ : Fin 4096)

/-- The share of the second operand that the copies into a staging buffer read, -/
def shr (s : Fin 2) : PosShare TreeShare := if s = 0 then fullShare.left else fullShare.right
/-- and the staging buffer of point `n`. -/
def slotOf (n : ℕ) : Fin 2 := ⟨n % 2, Nat.mod_lt _ (by decide)⟩

/-- The part of the second operand the copy at point `u` reads. -/
abbrev wSet (u : Fin grid0.N) : Finset (Idx ((c : Thread nD τ).loc main_arg1)) := ((win0 (adm (F := F) c) 1).blk u).view.set

/-- A staging buffer free, -/
def WIdle (s : Fin 2) : sProp 𝕄 :=
  iprop(((c : Thread nD τ).loc main_arg1 ↦{shr s} wv) ∗ (∃ f, (stage0_1 s).view.loc (c : Thread nD τ) ↦[(stage0_1 s).view.set]{fullShare} f)
    ∗ semVal ((c : Thread nD τ), .dma (sem0_1 s)) 0)
/-- being filled with the block of point `u`, -/
def WFly (s : Fin 2) (u : Fin grid0.N) : sProp 𝕄 :=
  iprop(Flight EC (c : Thread nD τ) (.dma (sem0_1 s)) () ((win0 (adm (F := F) c) 1).stg u s).view.dmaCredit
      iprop(owns (c : Thread nD τ) (stage0_1 s) fullShare (wblk wv (peer c u.val)) ∗ ((c : Thread nD τ).loc main_arg1 ↦[wSet (F := F) c u]{shr s} wv))
    ∗ ((c : Thread nD τ).loc main_arg1 ↦[Finset.univ \ wSet (F := F) c u]{shr s} wv))
/-- and filled. -/
def WHave (s : Fin 2) (u : Fin grid0.N) : sProp 𝕄 :=
  iprop(((c : Thread nD τ).loc main_arg1 ↦{shr s} wv) ∗ owns (c : Thread nD τ) (stage0_1 s) fullShare (wblk wv (peer c u.val))
    ∗ semVal ((c : Thread nD τ), .dma (sem0_1 s)) 0)

theorem WHave_idle (s : Fin 2) (u : Fin grid0.N) : (WHave c wv s u : sProp 𝕄) ⊢ WIdle c wv s := by
  unfold WHave WIdle owns
  iintro ⟨Hw, ⟨%f, -, Hs⟩, Hv⟩
  isplitl [Hw]; · iexact Hw
  isplitl [Hs]
  · iexists f; iexact Hs
  iexact Hv

theorem w_read (u : Fin grid0.N) : ((win0 (adm (F := F) c) 1).blk u).view.read (Elt F) wv = wblk wv (peer c u.val) := by
  funext x
  show wv _ = wv _
  congr 1
  funext a
  apply Fin.ext
  have hi := index1 (F := F) c (grid0.coords u)
  rw [coords_pt] at hi
  match a with
  | 0 =>
    show cc0_transform_1 (F := F) k0_off1_inb numel1_S1 (tabs c) (grid0.coords u) 0 * 8192 + 1 * (x 0).val = (x 0).val
    rw [hi]; show 0 * 8192 + 1 * (x 0).val = (x 0).val; omega
  | 1 =>
    show cc0_transform_1 (F := F) k0_off1_inb numel1_S1 (tabs c) (grid0.coords u) 1 * 256 + 1 * (x 1).val = (peer c u.val).val * 256 + (x 1).val
    rw [hi]; show (peer c u.val).val * 256 + 1 * (x 1).val = (peer c u.val).val * 256 + (x 1).val; omega

theorem start_w (bd : Option 𝒱₀.lift.V) (n : ℕ) (hn : n < 16) {k : LoopProg F} {Q : PUnit → sProp 𝕄} :
    (WIdle c wv (slotOf n) : sProp 𝕄) ⊢ iprop((WFly c wv (slotOf n) (pt n hn) -∗ lwp c bd k Q) -∗ lwp c bd (start (adm c) 1 (pt n hn) k) Q) := by
  have h := start_win c 1 (pt n hn) (by show 0 < S8192x256.numel; decide) bd (q := shr (slotOf n)) wv (k := k) (Q := Q)
  rw [show (cfg0 (adm (F := F) c)).slots (pt n hn) 1 = slotOf n from slot1 c (pt n hn), w_read c wv (pt n hn)] at h
  have hset := all_set (stage0_1 (slotOf n)) (fun _ => 0) (fun _ => rfl) (fun a => by rw [Nat.zero_add])
  have h' : iprop(((c : Thread nD τ).loc main_arg1 ↦[wSet (F := F) c (pt n hn)]{shr (slotOf n)} wv)
        ∗ (∃ f, (stage0_1 (slotOf n)).view.loc (c : Thread nD τ) ↦[((win0 (adm (F := F) c) 1).stg (pt n hn) (slotOf n)).view.set]{fullShare} f)
        ∗ semVal ((c : Thread nD τ), .dma (sem0_1 (slotOf n))) 0)
      ⊢ iprop((Flight EC (c : Thread nD τ) (.dma (sem0_1 (slotOf n))) () ((win0 (adm (F := F) c) 1).stg (pt n hn) (slotOf n)).view.dmaCredit
            iprop(owns (c : Thread nD τ) ((win0 (adm (F := F) c) 1).stg (pt n hn) (slotOf n)) fullShare (wblk wv (peer c n))
              ∗ ((c : Thread nD τ).loc main_arg1 ↦[wSet (F := F) c (pt n hn)]{shr (slotOf n)} wv)) -∗ lwp c bd k Q)
          -∗ lwp c bd (start (adm c) 1 (pt n hn) k) Q) := h
  rw [show ((win0 (adm (F := F) c) 1).stg (pt n hn) (slotOf n)).view.set = (stage0_1 (slotOf n)).view.set from hset] at h'
  unfold WIdle WFly
  iintro ⟨Hw, Hs, Hv⟩ Hk
  ihave Hw := (pointsTo_split_subset (Finset.subset_univ (wSet (F := F) c (pt n hn)))) $$ Hw
  icases Hw with ⟨Hb, Hr⟩
  iapply h' $$ [Hb Hs Hv]
  · isplitl [Hb]; · iexact Hb
    isplitl [Hs] <;> iassumption
  iintro Hf
  iapply Hk
  isplitr [Hr]
  · iapply (Flight_mono EC (D := iprop(owns (c : Thread nD τ) ((win0 (adm (F := F) c) 1).stg (pt n hn) (slotOf n)) fullShare (wblk wv (peer c n))
              ∗ ((c : Thread nD τ).loc main_arg1 ↦[wSet (F := F) c (pt n hn)]{shr (slotOf n)} wv)))) $$ Hf
    iintro ⟨H, Hx⟩
    isplitl [H]
    · iapply (all_owns c (stage0_1 (slotOf n)) (fun _ => 0) (fun _ => rfl) (fun a => by rw [Nat.zero_add])) $$ H
    iexact Hx
  iexact Hr

theorem w_join (s : Fin 2) (I : Finset (Idx ((c : Thread nD τ).loc main_arg1))) :
    iprop(((c : Thread nD τ).loc main_arg1 ↦[I]{shr s} wv) ∗ ((c : Thread nD τ).loc main_arg1 ↦[Finset.univ \ I]{shr s} wv))
      ⊢ ((c : Thread nD τ).loc main_arg1 ↦{shr s} wv : sProp 𝕄) :=
  (pointsTo_join_subset (Finset.subset_univ I)).trans (Entails.of_eq (by rw [Finset.piecewise_same]))

theorem await_w (bd : Option 𝒱₀.lift.V) (n : ℕ) (hn : n < 16) (a b : ℕ) {k : LoopProg F} {Q : PUnit → sProp 𝕄} :
    iprop(levAts L lv ∗ WFly c wv (slotOf n) (pt n hn) ∗ (∃ W, owes (c : Thread nD τ) (owed c a b) W))
      ⊢ iprop((WHave c wv (slotOf n) (pt n hn) ∗ (∃ W, owes (c : Thread nD τ) (owed c a b) W) -∗ lwp c bd k Q) -∗ lwp c bd (await (adm c) 1 (pt n hn) k) Q) := by
  have hsm : ∀ s : Fin 2, lvOf (.dma (sem0_1 s)) = 0 := by decide
  have h := fun hs => await_win c 1 (pt n hn) hs a b bd (D := iprop(owns (c : Thread nD τ) (stage0_1 (slotOf n)) fullShare (wblk wv (peer c n))
    ∗ ((c : Thread nD τ).loc main_arg1 ↦[wSet (F := F) c (pt n hn)]{shr (slotOf n)} wv))) (k := k) (Q := Q)
  rw [show (cfg0 (adm (F := F) c)).slots (pt n hn) 1 = slotOf n from slot1 c (pt n hn)] at h
  have h' := h (hsm _)
  unfold WHave WFly
  iintro ⟨#Hl, ⟨Hf, Hr⟩, HO⟩ Hk
  iapply h' $$ [Hf HO]
  · isplitr; · iexact Hl
    isplitl [Hf] <;> iassumption
  iintro ⟨⟨Hs, Hb⟩, Hv, HO⟩
  iapply Hk
  isplitr [HO]
  · isplitl [Hb Hr]
    · iapply (w_join c wv (slotOf n) (wSet (F := F) c (pt n hn))) $$ [Hb Hr]
      isplitl [Hb]
      · iexact Hb
      iexact Hr
    isplitl [Hs] <;> iassumption
  iexact HO

/-! ## The result: written back once -/

/-- The result's block at a point, all of it, and its staging buffer, as the copy names them. -/
def oDst (u : Fin grid0.N) : Memref sig .tc .hbm S8192x256 .bf16 :=
  (Memref.whole main_v9 : Memref sig .tc .hbm S8192x256 .bf16).slice
    (Rect.unit (s := S8192x256) (fun a => cc0_transform_2 (grid0.coords u) a * S8192x256.size a) S8192x256.size
      (fun a => by have := hinb0_2 (grid0.coords u) a; rw [Nat.add_mul, Nat.one_mul] at this; exact this)) fun _ => rfl
def oSrc : Memref sig .tc .vmem S8192x256 .bf16 :=
  outM.slice (Rect.unit (s := S8192x256) (fun _ => 0) S8192x256.size (fun a => by rw [Nat.zero_add])) fun _ => rfl

theorem oDst_eq (u : Fin grid0.N) : (win0 (adm (F := F) c) 2).blk u = oDst u := rfl
theorem oSrc_eq (u : Fin grid0.N) (s : Fin 1) : (win0 (adm (F := F) c) 2).stg u s = oSrc := by
  rw [Subsingleton.elim s 0]; rfl
theorem oSem_eq (s : Fin 1) : (win0 (adm (F := F) c) 2).sem s = cc0_sem2_0 := by
  rw [Subsingleton.elim s 0]

theorem oDst_off (u : Fin grid0.N) (a : Fin 2) : cc0_transform_2 (grid0.coords u) a * S8192x256.size a = 0 := by
  match a with
  | 0 => exact Nat.zero_mul _
  | 1 => exact Nat.zero_mul _

theorem oDst_set (u : Fin grid0.N) : (oDst u).view.set = Finset.univ :=
  (all_set (Memref.whole main_v9 : Memref sig .tc .hbm S8192x256 .bf16) _ (oDst_off u) _).trans (View.set_whole _)
theorem oDst_owns (u : Fin grid0.N) (X : S8192x256.Idx → Elt F .bf16) :
    (owns (c : Thread nD τ) (oDst u) fullShare X : sProp 𝕄) ⊢ ((c : Thread nD τ).loc main_v9 ↦{fullShare} X) :=
  (all_owns c (Memref.whole main_v9 : Memref sig .tc .hbm S8192x256 .bf16) _ (oDst_off u) _ _ _).trans (Entails.of_eq (owns_whole _ _ _ _))
theorem oSrc_set : oSrc.view.set = Finset.univ :=
  (all_set outM _ (fun _ => rfl) _).trans (View.set_whole _)
theorem oSrc_read (X : S8192x256.Idx → Elt F .bf16) : oSrc.view.read (Elt F) X = X :=
  all_read outM _ (fun _ => rfl) _ X

theorem write_out (bd : Option 𝒱₀.lift.V) (u : Fin grid0.N) (a b : ℕ) (X : S8192x256.Idx → Elt F .bf16) {k : LoopProg F} {Q : PUnit → sProp 𝕄} :
    iprop(levAts L lv ∗ (owns (c : Thread nD τ) outM fullShare X ∗ (∃ f, (c : Thread nD τ).loc main_v9 ↦{fullShare} f) ∗ semVal ((c : Thread nD τ), .dma cc0_sem2_0) 0)
        ∗ (∃ W, owes (c : Thread nD τ) (owed c a b) W))
      ⊢ iprop((((c : Thread nD τ).loc main_v9 ↦{fullShare} X) ∗ ((c : Thread nD τ).loc cc0_stg2_0 ↦{fullShare} X) ∗ semVal ((c : Thread nD τ), .dma cc0_sem2_0) 0
            ∗ (∃ W, owes (c : Thread nD τ) (owed c a b) W) -∗ lwp c bd k Q)
          -∗ lwp c bd (writeBack (adm c) 2 u k) Q) := by
  have hs : (cfg0 (adm (F := F) c)).slots u 2 = (0 : Fin 1) := Subsingleton.elim (α := Fin 1) _ _
  have h := write_win c 2 u (0 : Fin 1) hs (by show 0 < S8192x256.numel; decide) (show lvOf (.dma cc0_sem2_0) = 0 by decide) a b bd (X : S8192x256.Idx → Elt F .bf16) (k := k) (Q := Q)
  have h' : iprop(levAts L lv ∗ (((c : Thread nD τ).loc cc0_stg2_0 ↦[oSrc.view.set]{fullShare} X)
        ∗ (∃ f, (c : Thread nD τ).loc main_v9 ↦[(oDst u).view.set]{fullShare} f) ∗ semVal ((c : Thread nD τ), .dma cc0_sem2_0) 0) ∗ (∃ W, owes (c : Thread nD τ) (owed c a b) W))
      ⊢ iprop((owns (c : Thread nD τ) (oDst u) fullShare (oSrc.view.read (Elt F) X) ∗ ((c : Thread nD τ).loc cc0_stg2_0 ↦[oSrc.view.set]{fullShare} X)
            ∗ semVal ((c : Thread nD τ), .dma cc0_sem2_0) 0 ∗ (∃ W, owes (c : Thread nD τ) (owed c a b) W) -∗ lwp c bd k Q)
          -∗ lwp c bd (writeBack (adm c) 2 u k) Q) := h
  rw [oSrc_set, oDst_set, oSrc_read] at h'
  rw [owns_whole]
  iintro ⟨#Hl, ⟨Ho, ⟨%f, Hd⟩, Hv⟩, HO⟩ Hk
  iapply h' $$ [Ho Hd Hv HO]
  · isplitr; · iexact Hl
    isplitr [HO]
    · isplitl [Ho]; · iexact Ho
      isplitl [Hd]; · iexists f; iexact Hd
      iexact Hv
    iexact HO
  iintro ⟨Ho, H⟩
  iapply Hk
  isplitl [Ho]
  · iapply (oDst_owns c u X) $$ Ho
  iexact H

/-! ## The body's call -/

theorem body_call (u : Fin grid0.N) (n : ℕ) (hu : u.val = n) (v : 𝒱₀.lift.V) (hv : 𝒱₀.lift.lt (.inl none) v) {k : LoopProg F} {Q : PUnit → sProp 𝕄} :
    wp frame (wpE (defs₀ (F := F)) 𝒱₀ (c : Thread nD τ) none) Set.univ
        (cc0_body (grid0.coords u) (Memref.whole main_v8) (Memref.isWhole_whole _) (stage0_0 0) (hstage0_0 0) (stage0_1 (slotOf n)) (hstage0_1 (slotOf n))
          outM (Memref.isWhole_whole _) comM (Memref.isWhole_whole _) cc0_scratch1 cc0_scratch2) (fun _ => lwp c (some v) k Q)
      ⊢ lwp c (some v) (bodyAt (adm c) u k) Q := by
  have hd : ∀ s : (w : Fin 3) → Fin ((cfg0 (adm (F := F) c)).win w).nbuf, s 0 = (0 : Fin 1) → s 1 = slotOf n → s 2 = (0 : Fin 1) →
      defs₀ (F := F) .tc (cfg0 (adm (F := F) c)).body ((cfg0 (adm (F := F) c)).bodyArgs u s)
        = cc0_body (grid0.coords u) (Memref.whole main_v8) (Memref.isWhole_whole _) (stage0_0 0) (hstage0_0 0) (stage0_1 (slotOf n)) (hstage0_1 (slotOf n))
          outM (Memref.isWhole_whole _) comM (Memref.isWhole_whole _) cc0_scratch1 cc0_scratch2 := by
    intro s h0 h1 h2
    have e : s = fun | 0 => (0 : Fin 1) | 1 => slotOf n | 2 => (0 : Fin 1) := funext fun w => by
      match w with
      | 0 => exact h0
      | 1 => exact h1
      | 2 => exact h2
    subst e
    rfl
  iintro H
  iapply (wp_call 𝒱₀.lift (c : Thread nD τ) (some v) Set.univ (Q := Q) (ℓ := Pipeline.kernel (cfg0 (adm (F := F) c)).body)
    (a := (cfg0 (adm (F := F) c)).bodyArgs u ((cfg0 (adm (F := F) c)).slots u)) (k := fun _ => k) (Sum.inl none) (by rintro w ⟨⟩; exact hv))
  have e := Pipeline.defs_kernel (pcfgs (F := F)) defs₀ Proc.tc (cfg0 (adm (F := F) c)).body ((cfg0 (adm (F := F) c)).bodyArgs u ((cfg0 (adm (F := F) c)).slots u))
  rw [hd _ (Subsingleton.elim (α := Fin 1) _ _) ((slot1 c u).trans (by rw [hu]; rfl)) (Subsingleton.elim (α := Fin 1) _ _)] at e
  iapply (Entails.of_eq (congrArg (fun p => lwp c (some (.inl none)) p fun _ => lwp c (some v) k Q) e.symm))
  iapply (Pipeline.wp_liftProg (defs (F := F)) (Pipeline.defs_kernel (pcfgs (F := F)) defs₀) 𝒱₀ (c : Thread nD τ) Set.univ none)
  iexact H

end Cert.KernelIdeal.A2A
-- ==== Proof.KernelIdeal.Rows.lean ====
/-
  The result buffer by its sixteen row blocks, the scratch buffer by its fifteen slots: taken apart before the exchange and
  put together after it.
-/
module

public import proofs.«01_k».proof.Proof.KernelIdeal.Stage

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (c : Dev nD)

/-- A family over the devices: device `c`'s member and its peers'. -/
theorem with_peers (Φ : Dev nD → sProp 𝕄) : bigSep Finset.univ Φ = iprop(Φ c ∗ bigSep Finset.univ fun t : Fin 15 => Φ (nxt c t)) := by
  have e : (Finset.univ : Finset (Dev nD)) = insert c (Finset.univ.map ⟨nxt c, fun _ _ h => nxt_inj c h⟩) := by
    ext b
    simp only [Finset.mem_univ, Finset.mem_insert, Finset.mem_map, Function.Embedding.coeFn_mk, true_and, true_iff]
    by_cases h : b = c
    · exact .inl h
    · exact .inr (nxt_surj c b h)
  rw [e]
  refine (bigSep_insert ?_).trans ?_
  · simp only [Finset.mem_map, Finset.mem_univ, Function.Embedding.coeFn_mk, true_and, not_exists]
    exact fun t => nxt_ne c t
  · rw [bigSep_map]; rfl

/-- The peers numbered from the other end. -/
theorem peers_rev (Φ : Fin 15 → sProp 𝕄) : bigSep Finset.univ Φ = bigSep Finset.univ fun t : Fin 15 => Φ (rev t) :=
  bigSep_univ_equiv revEquiv Φ

/-! ## The row blocks -/

theorem row_disjoint (b b' : Dev nD) (h : b ≠ b') : Disjoint (rowR b).set (rowR b').set := by
  rw [Finset.disjoint_left]
  intro i hi hi'
  rw [Rect.mem_set_unit] at hi hi'
  have h₁ : 512 * b.val ≤ (i 0).val ∧ (i 0).val < 512 * b.val + 512 := hi 0
  have h₂ : 512 * b'.val ≤ (i 0).val ∧ (i 0).val < 512 * b'.val + 512 := hi' 0
  exact h (Fin.ext (by omega))

/-- The device whose row block holds a row. -/
def rowDev (i : S8192x256.Idx) : Dev nD := ⟨(i 0).val / 512, by have h : (i 0).val < 8192 := (i 0).isLt; show _ < 16; omega⟩

theorem row_cover : (Finset.univ : Finset (Dev nD)).biUnion (fun b => (rowR b).set) = Finset.univ := by
  refine Finset.eq_univ_iff_forall.2 fun i => Finset.mem_biUnion.2 ⟨rowDev i, Finset.mem_univ _, ?_⟩
  rw [Rect.mem_set_unit]
  have h : (i 0).val < 8192 := (i 0).isLt
  intro a
  match a with
  | 0 => show 512 * ((i 0).val / 512) ≤ (i 0).val ∧ (i 0).val < 512 * ((i 0).val / 512) + 512; omega
  | 1 => exact ⟨Nat.zero_le _, by show (i 1).val < 0 + 256; rw [Nat.zero_add]; exact (i 1).isLt⟩

/-- The result made of one block of rows per device. -/
def stack (X : Dev nD → Vec F S512x256 .bf16) : S8192x256.Idx → Elt F .bf16 :=
  fun i => X (rowDev i) fun | 0 => (⟨(i 0).val % 512, Nat.mod_lt _ (by decide)⟩ : Fin 512) | 1 => i 1

theorem stack_row (X : Dev nD → Vec F S512x256 .bf16) (b : Dev nD) : (fun j => stack X ((rowR b).emb j)) = X b := by
  funext j
  have hj : (j 0).val < 512 := (j 0).isLt
  have e0 : ((rowR b).emb j 0).val = 512 * b.val + (j 0).val := by show 512 * b.val + 1 * (j 0).val = _; rw [Nat.one_mul]
  have e1 : ((rowR b).emb j 1).val = (j 1).val := by show 0 + 1 * (j 1).val = _; omega
  have ed : rowDev ((rowR b).emb j) = b := Fin.ext (by show ((rowR b).emb j 0).val / 512 = b.val; rw [e0]; omega)
  show X (rowDev ((rowR b).emb j)) _ = X b j
  rw [ed]
  congr 1
  funext a
  apply Fin.ext
  match a with
  | 0 => show ((rowR b).emb j 0).val % 512 = (j 0).val; rw [e0]; omega
  | 1 => exact e1

theorem rows_split (f : S8192x256.Idx → Elt F .bf16) :
    ((c : Thread nD τ).loc cc0_stg2_0 ↦{fullShare} f : sProp 𝕄) ⊢ iprop(rowAny c c ∗ bigSep Finset.univ fun t : Fin 15 => rowAny c (nxt c t)) := by
  rw [← with_peers c (fun b => rowAny c b)]
  refine (Entails.of_eq (owns_whole (c : Thread nD τ) cc0_stg2_0 fullShare f).symm).trans ?_
  unfold owns
  iintro ⟨%g, -, H⟩
  iapply ((Entails.of_eq (pointsTo_rects (c : Thread nD τ) outM fullShare rowR (fun _ _ => rfl) row_disjoint row_cover g)).trans (bigSep_mono fun b _ => (?_ : _ ⊢ rowAny c b)))
  · unfold owns rowAny
    iintro ⟨%g, -, H⟩
    iexists g; iexact H
  iexact H

theorem rows_join (X : Dev nD → Vec F S512x256 .bf16) :
    bigSep Finset.univ (fun b => rowAt c b (X b)) ⊢ (owns (c : Thread nD τ) outM fullShare (stack X) : sProp 𝕄) := by
  refine Entails.trans (Entails.of_eq ?_) (owns_of_rects (c : Thread nD τ) outM fullShare rowR (fun _ _ => rfl) row_disjoint row_cover (stack X))
  refine bigSep_congr fun b _ => ?_
  rw [stack_row]
  rfl

/-- After the exchange: the device's own rows, and those its peers wrote. -/
theorem rows_done (Y : Prods F) :
    iprop(rowAt c c (Y c c) ∗ bigSep Finset.univ (recvPay Y c)) ⊢ (owns (c : Thread nD τ) outM fullShare (stack fun b => Y b c) : sProp 𝕄) := by
  refine Entails.trans (Entails.of_eq ?_) (rows_join c fun b => Y b c)
  rw [with_peers c (fun b => rowAt c b (Y b c)), peers_rev (recvPay Y c)]
  congr 2
  funext t
  unfold recvPay
  rw [rev_rev]

/-! ## The slots -/

theorem slot_disjoint (t t' : Fin 15) (h : t ≠ t') : Disjoint (slotR t).set (slotR t').set := by
  rw [Finset.disjoint_left]
  intro i hi hi'
  rw [Rect.mem_set_unit] at hi hi'
  have h₁ : t.val ≤ (i 0).val ∧ (i 0).val < t.val + 1 := hi 0
  have h₂ : t'.val ≤ (i 0).val ∧ (i 0).val < t'.val + 1 := hi' 0
  exact h (Fin.ext (by omega))

theorem slot_cover : (Finset.univ : Finset (Fin 15)).biUnion (fun t => (slotR t).set) = Finset.univ := by
  refine Finset.eq_univ_iff_forall.2 fun i => Finset.mem_biUnion.2 ⟨(i 0 : Fin 15), Finset.mem_univ _, ?_⟩
  rw [Rect.mem_set_unit]
  intro a
  match a with
  | 0 => exact ⟨le_refl _, Nat.lt_succ_self _⟩
  | 1 => exact ⟨Nat.zero_le _, by show (i 1).val < 0 + 512; rw [Nat.zero_add]; exact (i 1).isLt⟩
  | 2 => exact ⟨Nat.zero_le _, by show (i 2).val < 0 + 256; rw [Nat.zero_add]; exact (i 2).isLt⟩

theorem slots_split (f : S15x512x256.Idx → Elt F .bf16) :
    ((c : Thread nD τ).loc cc0_scratch0 ↦{fullShare} f : sProp 𝕄) ⊢ bigSep Finset.univ (slotAny c) := by
  refine (Entails.of_eq (owns_whole (c : Thread nD τ) cc0_scratch0 fullShare f).symm).trans ?_
  unfold owns
  iintro ⟨%g, -, H⟩
  iapply ((Entails.of_eq (pointsTo_rects (c : Thread nD τ) comM fullShare slotR (fun _ _ => rfl) slot_disjoint slot_cover g)).trans (bigSep_mono fun b _ => (?_ : _ ⊢ slotAny c b)))
  · unfold owns slotAny
    iintro ⟨%g, -, H⟩
    iexists g; iexact H
  iexact H

theorem slots_join : bigSep Finset.univ (slotAny (F := F) c) ⊢ (iprop(∃ f, (c : Thread nD τ).loc cc0_scratch0 ↦{fullShare} f) : sProp 𝕄) := by
  have hne : Nonempty (Buf (Elt F) ((c : Thread nD τ).loc cc0_scratch0)) :=
    have h : ∀ e, Nonempty (Elt F e) := inferInstance
    ⟨fun _ => Classical.choice (h .bf16)⟩
  have e : ∀ t : Fin 15, (slotAny (F := F) c t : sProp 𝕄) = iprop(∃ f, (c : Thread nD τ).loc cc0_scratch0 ↦[(slotR t).set]{fullShare} f) := fun t =>
    congrArg (fun I => (iprop(∃ f, (c : Thread nD τ).loc cc0_scratch0 ↦[I]{fullShare} f) : sProp 𝕄)) (View.set_slice_whole _ _)
  rw [bigSep_congr fun t _ => e t]
  refine (bigSep_exists_pi Finset.univ fun t (f : Buf (Elt F) ((c : Thread nD τ).loc cc0_scratch0)) =>
    ((c : Thread nD τ).loc cc0_scratch0 ↦[(slotR t).set]{fullShare} f : sProp 𝕄)).trans ?_
  iintro ⟨%fs, H⟩
  have hj := pointsTo_biUnion_join (Name := ℕ) (Ix := Unit) (U := UU) (Lvl := ℕ) (q := fullShare) Finset.univ
    (fun t : Fin 15 => ((slotR t).set : Finset (Idx ((c : Thread nD τ).loc cc0_scratch0)))) fs (fs 0) (fun t _ t' _ h => slot_disjoint t t' h)
  rw [show Finset.univ.biUnion (fun t : Fin 15 => ((slotR t).set : Finset (Idx ((c : Thread nD τ).loc cc0_scratch0)))) = Finset.univ from slot_cover] at hj
  ihave H := hj $$ H
  icases H with ⟨%g, -, H⟩
  iexists g
  iexact H

end Cert.KernelIdeal.A2A
-- ==== Proof.KernelIdeal.Turns.lean ====
/-
  The pipeline's loop on one device, turn by turn: what is held before each, and the whole of it.
-/
module

public import proofs.«01_k».proof.Proof.KernelIdeal.Rows
public import proofs.«01_k».proof.Proof.KernelIdeal.BodyLast

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (Y : Prods F) (K : GSem nD τ sig → ℕ) (c : Dev nD) (xv : S512x8192.Idx → Elt F .bf16) (wv : S8192x4096.Idx → Elt F .bf16) (q : PosShare TreeShare)

/-- The next turn is a call of the loop. -/
theorem again_step (bd : Option 𝒱₀.lift.V) (v : 𝒱₀.lift.V) (hv : ∀ u ∈ bd, 𝒱₀.lift.lt v u) (ℓ : ℕ) {Q : PUnit → sProp 𝕄} :
    lwp c (some v) (turn (adm c) ℓ) Q ⊢ lwp c bd (again (adm c) ℓ) Q := by
  unfold again
  iintro H
  iapply (wp_call 𝒱₀.lift (c : Thread nD τ) bd Set.univ (Q := Q) (ℓ := Pipeline.pipe 0) (a := (adm (F := F) c, ℓ)) (k := fun _ => .ret ⟨⟩) v hv)
  iapply (show lwp c (some v) (turn (adm c) ℓ) (fun _ => lwp c bd (.ret ⟨⟩) Q) ⊢ wp frame (wpE' (defs (F := F)) 𝒱₀.lift (c : Thread nD τ) (some v) (PendingWaitsCtx.descend .empty none)) Set.univ
    (defs (F := F) (c : Thread nD τ).2 (Pipeline.pipe 0) (adm (F := F) c, ℓ)) (fun _ => lwp c bd (.ret ⟨⟩) Q) from .rfl)
  iapply (wp_mono frame _ Set.univ (p := turn (adm (F := F) c) ℓ) (Q := Q) (fun a => by
    iintro H
    unfold lwp
    rw [wp_ret]
    imodintro
    iexact H))
  iexact H

theorem lt0 : 0 < 16 := by decide
theorem lt1 : 1 < 16 := by decide
theorem lt15 : 15 < 16 := by decide
theorem ltS (t : Fin 15) : t.val + 1 < 16 := Nat.succ_lt_succ t.isLt

theorem below (n : ℕ) : 𝒱₀.lift.lt (.inl none) (.inr n) := Sum.Lex.sep _ _
theorem below_succ (n : ℕ) : ∀ u ∈ (some (.inr (n + 1)) : Option 𝒱₀.lift.V), 𝒱₀.lift.lt (.inr n) u := by
  rintro u ⟨⟩
  exact Sum.Lex.inr (Nat.lt_succ_self n)

theorem done_split : bigSep Finset.univ (doneRes Y c) = iprop(bigSep Finset.univ (slotAny c) ∗ bigSep Finset.univ (recvPay Y c)
    ∗ bigSep Finset.univ fun t : Fin 15 => iprop(atPos ER (sendCell c t) 1 ∅ 0 ∗ atPos ER (recvCell c t) 1 ∅ 0)) := by
  unfold doneRes
  rw [bigSep_sep', bigSep_sep']

/-! ## What a device holds -/

/-- The result in HBM, not yet written, and its cell. -/
def OIdle : sProp 𝕄 := iprop((∃ f, (c : Thread nD τ).loc main_v9 ↦{fullShare} f) ∗ semVal ((c : Thread nD τ), .dma cc0_sem2_0) 0)

/-- Untouched until the last point. -/
def Kept : sProp 𝕄 := iprop(bigSep Finset.univ (drainRes c) ∗ ((c : Thread nD τ).loc main_v8 ↦{q} (tab c)) ∗ OIdle c)

/-- Before the loop. -/
def Before : sProp 𝕄 :=
  iprop((sigSt c 0 ∗ cred (tallyAt (barCell c) () 15) ∗ atPos ER (barCell c) 0 ∅ 0) ∗ rowAny c c ∗ bigSep Finset.univ (sendTok c) ∗ Kept c q
    ∗ XIdle c xv ∗ WIdle c wv (slotOf 0) ∗ WIdle c wv (slotOf 1))

/-- The point `m` over, the next block on its way. -/
def Amid (m : ℕ) (h : m + 1 < 16) : sProp 𝕄 :=
  iprop(midSt c m ∗ (atPos ER (barCell c) 1 ∅ 0 ∗ rowAt c c (Y c c)) ∗ Kept c q
    ∗ XHave c xv ∗ WFly c wv (slotOf (m + 1)) (pt (m + 1) h) ∗ WIdle c wv (slotOf (m + 2)))

/-- After the loop. -/
def After : sProp 𝕄 :=
  iprop((∃ W, owes (c : Thread nD τ) 0 W) ∗ atPos ER (barCell c) 1 ∅ 0
    ∗ (bigSep Finset.univ (slotAny c) ∗ bigSep Finset.univ fun t : Fin 15 => iprop(atPos ER (sendCell c t) 1 ∅ 0 ∗ atPos ER (recvCell c t) 1 ∅ 0))
    ∗ ((c : Thread nD τ).loc main_v8 ↦{q} (tab c)) ∗ XHave c xv ∗ WIdle c wv (slotOf 0) ∗ WIdle c wv (slotOf 1)
    ∗ ((c : Thread nD τ).loc main_v9 ↦{fullShare} stack fun b => Y b c) ∗ ((c : Thread nD τ).loc cc0_stg2_0 ↦{fullShare} stack fun b => Y b c)
    ∗ semVal ((c : Thread nD τ), .dma cc0_sem2_0) 0)

theorem slotOf_two (n : ℕ) : slotOf (n + 2) = slotOf n := Fin.ext (by show (n + 2) % 2 = n % 2; omega)

variable (hY : ∀ d, Y c d = k0_pay1 xv (wblk wv d))
include hY

/-! ## The body at each point -/

theorem at_first (v : 𝒱₀.lift.V) (hv : 𝒱₀.lift.lt (.inl none) v) {k : LoopProg F} {Q : PUnit → sProp 𝕄} :
    iprop(recs Y K ∗ levAts L lv ∗ ((sigSt c 0 ∗ cred (tallyAt (barCell c) () 15) ∗ atPos ER (barCell c) 0 ∅ 0) ∗ rowAny c c ∗ bigSep Finset.univ (sendTok c))
        ∗ XHave c xv ∗ WHave c wv (slotOf 0) (pt 0 lt0))
      ⊢ iprop((midSt c 0 ∗ (atPos ER (barCell c) 1 ∅ 0 ∗ rowAt c c (Y c c)) ∗ XHave c xv ∗ WHave c wv (slotOf 0) (pt 0 lt0) -∗ lwp c (some v) k Q)
        -∗ lwp c (some v) (bodyAt (adm c) (pt 0 lt0) k) Q) := by
  unfold XHave WHave
  iintro ⟨#HR, #Hl, ⟨Hs, Hr, Ht⟩, ⟨Hx0, Hx, Hxv⟩, Hw0, Hw, Hwv⟩ Hk
  iapply (body_call c (pt 0 lt0) 0 rfl v hv)
  iapply (body_first Y K c (grid0.coords (pt 0 lt0)) (stage0_0 0) (hstage0_0 0) (stage0_1 (slotOf 0)) (hstage0_1 (slotOf 0)) _ _ _
    (coords_pt (pt 0 lt0)) ((hY c).trans (by rw [← peer_zero c])) (fun _ => lwp c (some v) k Q)) $$ [Hs Hr Ht Hx Hw]
  · isplitr; · iexact HR
    isplitr; · iexact Hl
    isplitl [Hs]; · iexact Hs
    isplitl [Hr]; · iexact Hr
    isplitl [Ht]; · iexact Ht
    isplitl [Hx]; · iexact Hx
    iexact Hw
  iintro ⟨Hm, Ha, Hr, Hx, Hw⟩
  iapply Hk
  isplitl [Hm]; · iexact Hm
  isplitl [Ha Hr]
  · isplitl [Ha] <;> iassumption
  isplitl [Hx0 Hx Hxv]
  · isplitl [Hx0]; · iexact Hx0
    isplitl [Hx] <;> iassumption
  isplitl [Hw0]; · iexact Hw0
  isplitl [Hw] <;> iassumption

theorem at_mid (t : Fin 15) (ht : t.val < 14) (v : 𝒱₀.lift.V) (hv : 𝒱₀.lift.lt (.inl none) v) {k : LoopProg F} {Q : PUnit → sProp 𝕄} :
    iprop(recs Y K ∗ midSt c t.val ∗ ((c : Thread nD τ).loc main_v8 ↦{q} (tab c))
        ∗ XHave c xv ∗ WHave c wv (slotOf (t.val + 1)) (pt (t.val + 1) (ltS t)))
      ⊢ iprop((midSt c (t.val + 1) ∗ ((c : Thread nD τ).loc main_v8 ↦{q} (tab c)) ∗ XHave c xv ∗ WHave c wv (slotOf (t.val + 1)) (pt (t.val + 1) (ltS t)) -∗ lwp c (some v) k Q)
        -∗ lwp c (some v) (bodyAt (adm c) (pt (t.val + 1) (ltS t)) k) Q) := by
  unfold XHave WHave
  iintro ⟨#HR, Hm, Ht, ⟨Hx0, Hx, Hxv⟩, Hw0, Hw, Hwv⟩ Hk
  iapply (body_call c (pt (t.val + 1) (ltS t)) (t.val + 1) rfl v hv)
  iapply (body_mid Y K c (grid0.coords (pt (t.val + 1) (ltS t))) (stage0_0 0) (hstage0_0 0) (stage0_1 (slotOf (t.val + 1))) (hstage0_1 (slotOf (t.val + 1))) _ _ _
    t (coords_pt (pt (t.val + 1) (ltS t))) ht ((hY (nxt c t)).trans (by rw [← peer_succ c t])) (fun _ => lwp c (some v) k Q)) $$ [Hm Ht Hx Hw]
  · isplitr; · iexact HR
    isplitl [Hm]; · iexact Hm
    isplitl [Ht]; · iexact Ht
    isplitl [Hx]; · iexact Hx
    iexact Hw
  iintro ⟨Hm, Ht, Hx, Hw⟩
  iapply Hk
  isplitl [Hm]; · iexact Hm
  isplitl [Ht]; · iexact Ht
  isplitl [Hx0 Hx Hxv]
  · isplitl [Hx0]; · iexact Hx0
    isplitl [Hx] <;> iassumption
  isplitl [Hw0]; · iexact Hw0
  isplitl [Hw] <;> iassumption

theorem at_last (v : 𝒱₀.lift.V) (hv : 𝒱₀.lift.lt (.inl none) v) {k : LoopProg F} {Q : PUnit → sProp 𝕄} :
    iprop(recs Y K ∗ (midSt c 14 ∗ bigSep Finset.univ (drainRes c)) ∗ ((c : Thread nD τ).loc main_v8 ↦{q} (tab c))
        ∗ XHave c xv ∗ WHave c wv (slotOf 15) (pt 15 lt15))
      ⊢ iprop(((∃ W, owes (c : Thread nD τ) 0 W) ∗ bigSep Finset.univ (doneRes Y c) ∗ ((c : Thread nD τ).loc main_v8 ↦{q} (tab c)) ∗ XHave c xv ∗ WHave c wv (slotOf 15) (pt 15 lt15) -∗ lwp c (some v) k Q)
        -∗ lwp c (some v) (bodyAt (adm c) (pt 15 lt15) k) Q) := by
  unfold XHave WHave
  iintro ⟨#HR, Hm, Ht, ⟨Hx0, Hx, Hxv⟩, Hw0, Hw, Hwv⟩ Hk
  iapply (body_call c (pt 15 lt15) 15 rfl v hv)
  iapply (body_last Y K c (grid0.coords (pt 15 lt15)) (stage0_0 0) (hstage0_0 0) (stage0_1 (slotOf 15)) (hstage0_1 (slotOf 15)) _ _ _
    (coords_pt (pt 15 lt15)) ((hY (nxt c 14)).trans (by rw [← peer_succ c 14])) (fun _ => lwp c (some v) k Q)) $$ [Hm Ht Hx Hw]
  · isplitr; · iexact HR
    isplitl [Hm]; · iexact Hm
    isplitl [Ht]; · iexact Ht
    isplitl [Hx]; · iexact Hx
    iexact Hw
  iintro ⟨Hm, Hd, Ht, Hx, Hw⟩
  iapply Hk
  isplitl [Hm]; · iexact Hm
  isplitl [Hd]; · iexact Hd
  isplitl [Ht]; · iexact Ht
  isplitl [Hx0 Hx Hxv]
  · isplitl [Hx0]; · iexact Hx0
    isplitl [Hx] <;> iassumption
  isplitl [Hw0]; · iexact Hw0
  isplitl [Hw]; · iexact Hw
  iexact Hwv

/-! ## The turns -/

theorem loop_last {Q : PUnit → sProp 𝕄} :
    iprop(recs Y K ∗ levAts L lv ∗ Amid Y c xv wv q 14 lt15) ⊢ iprop((After Y c xv wv q -∗ Q ⟨⟩) -∗ lwp c (some (.inr 2)) (turn (adm c) 16) Q) := by
  unfold Amid Kept OIdle
  iintro ⟨#HR, #Hl, Hm, ⟨Ha, Hr⟩, ⟨Hd, Ht, Ho, Hov⟩, Hx, Hw, Hw'⟩ Hk
  rw [turn_last]
  unfold midSt
  icases Hm with ⟨HO, Hm⟩
  iapply (await_w c wv (some (.inr 2)) 15 lt15 15 14) $$ [Hw HO]
  · isplitr; · iexact Hl
    isplitl [Hw]; · iexact Hw
    iexact HO
  iintro ⟨Hw, HO⟩
  iapply (at_last Y K c xv wv q hY (.inr 2) (below 2)) $$ [HO Hm Hd Ht Hx Hw]
  · isplitr; · iexact HR
    isplitl [HO Hm Hd]
    · isplitl [HO Hm]
      · unfold midSt
        isplitl [HO]; · iexact HO
        iexact Hm
      iexact Hd
    isplitl [Ht]; · iexact Ht
    isplitl [Hx]; · iexact Hx
    iexact Hw
  iintro ⟨HO, Hd, Ht, Hx, Hw⟩
  ihave Hd := (Entails.of_eq (done_split Y c)) $$ Hd
  icases Hd with ⟨Hsl, Hrp, Hat⟩
  iapply (write_out c (some (.inr 2)) (pt 15 lt15) 15 15 (stack fun b => Y b c)) $$ [Hr Hrp Ho Hov HO]
  · isplitr; · iexact Hl
    isplitr [HO]
    · isplitl [Hr Hrp]
      · iapply (rows_done c Y) $$ [Hr Hrp]
        isplitl [Hr]; · iexact Hr
        iexact Hrp
      isplitl [Ho]; · iexact Ho
      iexact Hov
    rw [owed_none]
    iexact HO
  rw [owed_none]
  iintro ⟨Ho, Hos, Hov, HO⟩
  iapply (again_step c (some (.inr 2)) (.inr 1) (below_succ 1) 17)
  rw [turn_end]
  unfold lwp
  rw [wp_ret]
  imodintro
  iapply Hk
  unfold After
  isplitl [HO]; · iexact HO
  isplitl [Ha]; · iexact Ha
  isplitl [Hsl Hat]
  · isplitl [Hsl]; · iexact Hsl
    iexact Hat
  isplitl [Ht]; · iexact Ht
  isplitl [Hx]; · iexact Hx
  isplitl [Hw']; · iexact Hw'
  isplitl [Hw]
  · iapply (WHave_idle c wv (slotOf 15) (pt 15 lt15)) $$ Hw
  isplitl [Ho]; · iexact Ho
  isplitl [Hos]; · iexact Hos
  iexact Hov

/-- A turn in the middle. -/
theorem turn_step (m : ℕ) (h : m + 2 < 16) {Q : PUnit → sProp 𝕄} :
    iprop(recs Y K ∗ levAts L lv ∗ Amid Y c xv wv q m (by omega))
      ⊢ iprop((Amid Y c xv wv q (m + 1) h -∗ lwp c (some (.inr (15 - m))) (turn (adm c) (m + 3)) Q) -∗ lwp c (some (.inr (16 - m))) (turn (adm c) (m + 2)) Q) := by
  have h1 : m + 1 < 16 := by omega
  have h14 : m < 14 := by omega
  have h15 : m < 15 := by omega
  have h16 : 16 - m = 15 - m + 1 := by omega
  unfold Amid Kept
  iintro ⟨#HR, #Hl, Hm, Hp, ⟨Hd, Ht, Ho⟩, Hx, Hw, Hw'⟩ Hk
  rw [turn_mid c (m + 1) (Nat.succ_pos m) h]
  iapply (start_w c wv (some (.inr (16 - m))) (m + 2) h) $$ Hw'
  iintro Hw'
  unfold midSt
  icases Hm with ⟨HO, Hm⟩
  iapply (await_w c wv (some (.inr (16 - m))) (m + 1) h1 15 m) $$ [Hw HO]
  · isplitr; · iexact Hl
    isplitl [Hw]; · iexact Hw
    iexact HO
  iintro ⟨Hw, HO⟩
  iapply (at_mid Y K c xv wv q hY ⟨m, h15⟩ h14 (.inr (16 - m)) (below _)) $$ [HO Hm Ht Hx Hw]
  · isplitr; · iexact HR
    isplitl [HO Hm]
    · unfold midSt
      isplitl [HO]; · iexact HO
      iexact Hm
    isplitl [Ht]; · iexact Ht
    isplitl [Hx]; · iexact Hx
    iexact Hw
  iintro ⟨Hm, Ht, Hx, Hw⟩
  iapply (again_step c (some (.inr (16 - m))) (.inr (15 - m)) (by rw [h16]; exact below_succ _) (m + 3))
  iapply Hk
  isplitl [Hm]; · unfold midSt; iexact Hm
  isplitl [Hp]; · iexact Hp
  isplitl [Hd Ht Ho]
  · isplitl [Hd]; · iexact Hd
    isplitl [Ht]; · iexact Ht
    iexact Ho
  isplitl [Hx]; · iexact Hx
  isplitl [Hw']; · iexact Hw'
  rw [show m + 1 + 2 = (m + 1) + 2 from rfl, slotOf_two (m + 1)]
  iapply (WHave_idle c wv (slotOf (m + 1)) (pt (m + 1) h1)) $$ Hw

theorem loop_from (n : ℕ) : ∀ (m : ℕ) (h : m + 1 < 16), m + n = 14 → ∀ {Q : PUnit → sProp 𝕄},
    iprop(recs Y K ∗ levAts L lv ∗ Amid Y c xv wv q m h) ⊢ iprop((After Y c xv wv q -∗ Q ⟨⟩) -∗ lwp c (some (.inr (16 - m))) (turn (adm c) (m + 2)) Q) := by
  induction n with
  | zero =>
    intro m h hm Q
    obtain rfl : m = 14 := by omega
    exact loop_last Y K c xv wv q hY
  | succ n ih =>
    intro m h hm Q
    iintro ⟨#HR, #Hl, H⟩ Hk
    iapply (turn_step Y K c xv wv q hY m (by omega)) $$ [H]
    · isplitr; · iexact HR
      isplitr; · iexact Hl
      iexact H
    iintro H
    have h' := ih (m + 1) (by omega) (by omega) (Q := Q)
    rw [show 16 - (m + 1) = 15 - m by omega] at h'
    iapply h' $$ [H]
    · isplitr; · iexact HR
      isplitr; · iexact Hl
      iexact H
    iexact Hk

/-- The loop. -/
theorem loop {Q : PUnit → sProp 𝕄} :
    iprop(recs Y K ∗ levAts L lv ∗ Before c xv wv q) ⊢ iprop((After Y c xv wv q -∗ Q ⟨⟩) -∗ lwp c (some (.inr 18)) (turn (adm c) 0) Q) := by
  unfold Before Kept
  iintro ⟨#HR, #Hl, Hb, Hr, Htok, ⟨Hd, Ht, Ho⟩, Hx, Hw, Hw'⟩ Hk
  rw [turn_zero]
  iapply (start_w c wv (some (.inr 18)) 0 lt0) $$ Hw
  iintro Hw
  iapply (again_step c (some (.inr 18)) (.inr 17) (below_succ 17) 1)
  rw [turn_one]
  iapply (start_x c xv (some (.inr 17)) (pt 0 lt0)) $$ Hx
  iintro Hx
  iapply (start_w c wv (some (.inr 17)) 1 lt1) $$ Hw'
  iintro Hw'
  unfold sigSt
  icases Hb with ⟨⟨HO, Hs⟩, Hc, Ha⟩
  iapply (await_x c xv (some (.inr 17)) (pt 0 lt0) 0 0) $$ [Hx HO]
  · isplitr; · iexact Hl
    isplitl [Hx]; · iexact Hx
    iexact HO
  iintro ⟨Hx, HO⟩
  iapply (await_w c wv (some (.inr 17)) 0 lt0 0 0) $$ [Hw HO]
  · isplitr; · iexact Hl
    isplitl [Hw]; · iexact Hw
    iexact HO
  iintro ⟨Hw, HO⟩
  iapply (at_first Y K c xv wv hY (.inr 17) (below _)) $$ [HO Hs Hc Ha Hr Htok Hx Hw]
  · isplitr; · iexact HR
    isplitr; · iexact Hl
    isplitl [HO Hs Hc Ha Hr Htok]
    · isplitl [HO Hs Hc Ha]
      · isplitl [HO Hs]
        · unfold sigSt
          isplitl [HO]; · iexact HO
          iexact Hs
        isplitl [Hc]; · iexact Hc
        iexact Ha
      isplitl [Hr]; · iexact Hr
      iexact Htok
    isplitl [Hx]; · iexact Hx
    iexact Hw
  iintro ⟨Hm, Hp, Hx, Hw⟩
  iapply (again_step c (some (.inr 17)) (.inr 16) (below_succ 16) 2)
  iapply (loop_from Y K c xv wv q hY 14 0 (by decide) rfl) $$ [Hm Hp Hd Ht Ho Hx Hw Hw']
  · isplitr; · iexact HR
    isplitr; · iexact Hl
    unfold Amid Kept
    isplitl [Hm]; · iexact Hm
    isplitl [Hp]; · iexact Hp
    isplitl [Hd Ht Ho]
    · isplitl [Hd]; · iexact Hd
      isplitl [Ht]; · iexact Ht
      iexact Ho
    isplitl [Hx]; · iexact Hx
    isplitl [Hw']; · iexact Hw'
    iapply (WHave_idle c wv (slotOf 0) (pt 0 lt0)) $$ Hw
  iexact Hk

end Cert.KernelIdeal.A2A
-- ==== Proof.KernelIdeal.Ends.lean ====
/-
  What the region is entered with and left with, besides the launch's share: the scoped buffers and semaphores one by
  one, the semaphores' invariants opened and closed, and the four arrays out of the device's buffers.
-/
module

public import proofs.«01_k».proof.Proof.KernelIdeal.Turns
public import proofs.«01_k».proof.Proof.Gen.KernelIdeal.Regions

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (Y : Prods F) (K : GSem nD τ sig → ℕ) (c : Dev nD) (xv : S512x8192.Idx → Elt F .bf16) (wv : S8192x4096.Idx → Elt F .bf16)

omit [FloatOps F] in
/-- The scoped buffers, one by one. -/
theorem bufs_eq : (scopedBufs (c : Thread nD τ) : sProp 𝕄)
    = iprop((∃ f, (c : Thread nD τ).loc cc0_stg0_0 ↦{fullShare} f) ∗ (∃ f, (c : Thread nD τ).loc cc0_stg1_0 ↦{fullShare} f)
      ∗ (∃ f, (c : Thread nD τ).loc cc0_stg1_1 ↦{fullShare} f) ∗ (∃ f, (c : Thread nD τ).loc cc0_stg2_0 ↦{fullShare} f)
      ∗ (∃ f, (c : Thread nD τ).loc cc0_scratch0 ↦{fullShare} f)) := by
  rw [show (scopedBufs (c : Thread nD τ) : sProp 𝕄) = _ from scopedBufs_tc c]
  exact bigSep_eq_bigSepL_of_eq [cc0_stg0_0, cc0_stg1_0, cc0_stg1_1, cc0_stg2_0, cc0_scratch0] (by decide) (by decide) _

/-- The copies' semaphores, -/
abbrev sends : Finset (SemLoc sig) := Finset.univ.image fun t : Fin 15 => SemLoc.dma (sendS t)
abbrev recvs : Finset (SemLoc sig) := Finset.univ.image fun t : Fin 15 => SemLoc.dma (recvS t)
/-- and the pipeline's own. -/
abbrev stages : Finset (SemLoc sig) := {SemLoc.dma cc0_sem0_0, SemLoc.dma (sem0_1 0), SemLoc.dma (sem0_1 1), SemLoc.dma cc0_sem2_0}

theorem scoped_sems : (Finset.univ.filter fun sm : SemLoc sig => sm.isScoped .tc) = stages ∪ (sends ∪ recvs) := by decide +kernel
theorem stages_disj : Disjoint stages (sends ∪ recvs) := by decide +kernel
theorem sends_disj : Disjoint sends recvs := by decide +kernel
theorem stages_list : stages = [SemLoc.dma cc0_sem0_0, SemLoc.dma (sem0_1 0), SemLoc.dma (sem0_1 1), SemLoc.dma cc0_sem2_0].toFinset := by decide +kernel

omit [FloatOps F] in
/-- The scoped semaphores, one by one. -/
theorem sems_eq : (scopedSems0 (c : Thread nD τ) : sProp 𝕄)
    = iprop((semVal ((c : Thread nD τ), .dma cc0_sem0_0) 0 ∗ semVal ((c : Thread nD τ), .dma (sem0_1 0)) 0
        ∗ semVal ((c : Thread nD τ), .dma (sem0_1 1)) 0 ∗ semVal ((c : Thread nD τ), .dma cc0_sem2_0) 0)
      ∗ (bigSep Finset.univ fun t : Fin 15 => semVal (sendCell c t) 0) ∗ bigSep Finset.univ fun t : Fin 15 => semVal (recvCell c t) 0) := by
  rw [show (scopedSems0 (c : Thread nD τ) : sProp 𝕄) = _ from scopedSems0_tc c, scoped_sems, BI.bigSep_union stages_disj, BI.bigSep_union sends_disj]
  congr 1
  · exact bigSep_eq_bigSepL_of_eq _ stages_list (by decide) _

/-! ## The copies' semaphores, opened and closed -/

/-- Opening: each counter at zero goes to its invariant, for the position at its start. -/
theorem cells_open :
    iprop(recs Y K ∗ (bigSep Finset.univ fun t : Fin 15 => iprop(openTok ER (sendCell c t) ∗ openTok ER (recvCell c t)))
        ∗ (bigSep Finset.univ fun t : Fin 15 => semVal (sendCell c t) 0) ∗ bigSep Finset.univ fun t : Fin 15 => semVal (recvCell c t) 0)
      ⊢ iprop(|={Set.univ}=> bigSep Finset.univ fun t : Fin 15 => iprop((atPos ER (sendCell c t) 0 ∅ 0 ∗ reached ER (sendCell c t) 0)
          ∗ (atPos ER (recvCell c t) 0 ∅ 0 ∗ reached ER (recvCell c t) 0))) := by
  rw [← bigSep_sep', ← bigSep_sep']
  refine (bigSep_with_persistent fun t _ => ?_).trans (bigSep_fupd _ _)
  iintro ⟨#HR, ⟨Ho, Ho'⟩, Hv, Hv'⟩
  ihave Hi := (recs_peer Y K c t) $$ HR
  icases Hi with ⟨#Hs, #Hr⟩
  imod (cell_open ER (sched Y) (Set.mem_univ _)) $$ [Ho Hv] with H1
  · isplitr; · iexact Hs
    isplitl [Ho] <;> iassumption
  imod (cell_open ER (sched Y) (Set.mem_univ _)) $$ [Ho' Hv'] with H2
  · isplitr; · iexact Hr
    isplitl [Ho'] <;> iassumption
  imodintro
  isplitl [H1]
  · iexact H1
  · iexact H2

/-- Closing: nothing is left to do at them, so their counters come back at zero. -/
theorem cells_close :
    iprop(recs Y K ∗ bigSep Finset.univ fun t : Fin 15 => iprop(atPos ER (sendCell c t) 1 ∅ 0 ∗ atPos ER (recvCell c t) 1 ∅ 0))
      ⊢ iprop(|={Set.univ}=> ((bigSep Finset.univ fun t : Fin 15 => semVal (sendCell c t) 0) ∗ bigSep Finset.univ fun t : Fin 15 => semVal (recvCell c t) 0)) := by
  rw [← bigSep_sep']
  refine (bigSep_with_persistent fun t _ => ?_).trans (bigSep_fupd _ _)
  iintro ⟨#HR, Ho, Ho'⟩
  ihave Hi := (recs_peer Y K c t) $$ HR
  icases Hi with ⟨#Hs, #Hr⟩
  imod (cell_close ER (sched Y) (Set.mem_univ _) (id : ¬(sched Y).unitless _) (R := 1) (duties_later Y _)) $$ [Ho] with H1
  · isplitr; · iexact Hs
    iexact Ho
  imod (cell_close ER (sched Y) (Set.mem_univ _) (id : ¬(sched Y).unitless _) (R := 1) (duties_later Y _)) $$ [Ho'] with H2
  · isplitr; · iexact Hr
    iexact Ho'
  imodintro
  isplitl [H1]
  · iexact H1
  · iexact H2

/-- And the barrier's counter. -/
theorem bar_close : iprop(recs Y K ∗ atPos ER (barCell c) 1 ∅ 0) ⊢ iprop(|={Set.univ}=> semVal (barCell c) 0) := by
  iintro ⟨#HR, Ho⟩
  ihave Hi := (recs_bar Y K c) $$ HR
  icases Hi with ⟨#Hs, -⟩
  iapply (cell_close ER (sched Y) (Set.mem_univ _) (id : ¬(sched Y).unitless _) (R := 1) (duties_later Y _)) $$ [Ho]
  isplitr; · iexact Hs
  iexact Ho

/-! ## The arrays out of the device's buffers -/

/-- The four arrays the region touches. -/
abbrev used : Finset (DevRef τ sig) := {Proc.devRef .tc main_arg0, Proc.devRef .tc main_arg1, Proc.devRef .tc main_v8, Proc.devRef .tc main_v9}

theorem used_sub : used ⊆ Pipeline.ucRefs τ sig := by decide +kernel

omit [FloatOps F] in
theorem held_used (V : Valuation τ sig (Elt F)) : (StableHlo.held (c : Thread nD τ) (Pipeline.ucRefs τ sig) V : sProp 𝕄)
    = iprop((((c : Thread nD τ).loc main_arg0 ↦{fullShare} V main_arg0) ∗ ((c : Thread nD τ).loc main_arg1 ↦{fullShare} V main_arg1)
        ∗ ((c : Thread nD τ).loc main_v8 ↦{fullShare} V main_v8) ∗ ((c : Thread nD τ).loc main_v9 ↦{fullShare} V main_v9))
      ∗ StableHlo.held (c : Thread nD τ) (Pipeline.ucRefs τ sig \ used) V) := by
  rw [StableHlo.held_sub_split (c : Thread nD τ) used_sub V]
  congr 1
  exact bigSep_eq_bigSepL_of_eq [Proc.devRef .tc main_arg0, Proc.devRef .tc main_arg1, Proc.devRef .tc main_v8, Proc.devRef .tc main_v9] (by decide) (by decide) _

end Cert.KernelIdeal.A2A
-- ==== Proof.KernelIdeal.Region.lean ====
/-
  The kernel's region on one device, from what the launch deals it to what it leaves: entering it, its buffers and
  semaphores sorted out, the loop, and leaving it.
-/
module

public import proofs.«01_k».proof.Proof.KernelIdeal.Ends

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (Y : Prods F) (K : GSem nD τ sig → ℕ) (c : Dev nD) (xv : S512x8192.Idx → Elt F .bf16) (wv : S8192x4096.Idx → Elt F .bf16)

omit xv wv Y K in
/-- The region's program: the table is read, found within the array, and the loop begins. -/
theorem entry_run {Q : PUnit → sProp 𝕄} :
    ((c : Thread nD τ).loc main_v8 ↦{fullShare} tab c)
      ⊢ iprop((((c : Thread nD τ).loc main_v8 ↦{fullShare} tab c) -∗ lwp c (some (.inr 18)) (turn (adm c) 0) Q)
          -∗ lwp c (some (.inr 19)) (Pipeline.prun (pcfgs (F := F)) 0) Q) := by
  iintro Ht Hk
  unfold Pipeline.prun lwp
  have e : (Pipeline.prefHeld (pcfgs (F := F) 0).pre c (fun _ => fullShare) (adm (F := F) c).1 : sProp 𝕄)
    = ((c : Thread nD τ).loc main_v8 ↦{fullShare} tab c) := bigSep_singleton
  iapply (Pipeline.Prefetch.wp_readAll 𝒱₀.lift (some (Sum.inr 19)) Set.univ (pcfgs (F := F) 0).pre c (fun _ => fullShare) (adm (F := F) c).1 _) $$ [Ht]
  · iapply (Entails.of_eq e.symm); iexact Ht
  iintro Ht
  ihave Ht := (Entails.of_eq e) $$ Ht
  iapply (wp_assume 𝒱₀.lift _ (some (Sum.inr 19)) Set.univ (adm (F := F) c).2)
  iapply (show lwp c (some (.inr 19)) (again (adm (F := F) c) 0) Q ⊢ _ from .rfl)
  iapply (again_step c (some (.inr 19)) (.inr 18) (by intro u hu; cases hu; exact Sum.Lex.inr (by decide)) 0)
  iapply Hk $$ Ht

/-- A program of @main, and its running on device `c`. -/
abbrev RunProg (F : FTy → Type) [FloatOps F] (β : Type) : Type 1 :=
  Prog (TpuEff nD τ sig (Elt F) (Pipeline.Sig Λ₀ (Fin 1) fun p => (pcfgs (F := F) p).Adm) .tc) β
def run_wp {β : Type} (p : RunProg F β) (Q : β → sProp 𝕄) : sProp 𝕄 :=
  wp frame (wpE (defs (F := F)) 𝒱₀.lift (c : Thread nD τ) none) Set.univ p Q

omit xv wv Y K in
/-- Entering the region and leaving it. -/
theorem region_enter {β : Type} {k : PUnit → RunProg F β} {Q : β → sProp 𝕄} :
    iprop(scopedBufs (c : Thread nD τ) ∗ ((c : Thread nD τ).loc main_v8 ↦{fullShare} tab c))
      ⊢ iprop((scopedBufs (c : Thread nD τ) ∗ ((c : Thread nD τ).loc main_v8 ↦{fullShare} tab c)
            -∗ lwp c (some (.inr 18)) (turn (adm c) 0) (fun _ => iprop(scopedSems0 (c : Thread nD τ)
              ∗ (scopedSems0 (c : Thread nD τ) -∗ scopedBufs (c : Thread nD τ) ∗ (scopedBufs (c : Thread nD τ) -∗ run_wp c (k ⟨⟩) Q)))))
          -∗ run_wp c (.op (.customCall (Pipeline.entry 0) ()) k) Q) := by
  iintro ⟨Hsc, Ht⟩ Hk
  unfold run_wp
  iapply (wp_customCall 𝒱₀.lift (c : Thread nD τ) none Set.univ (ℓ := Pipeline.entry 0) (a := ()) (k := k) (Q := Q) (Sum.inr 19) (by rintro u ⟨⟩)) $$ Hsc
  iintro Hsc
  iapply (show lwp c (some (.inr 19)) (Pipeline.prun (pcfgs (F := F)) 0) (fun r => kernelExitSpec (c : Thread nD τ) fun _ => run_wp c (k r) Q) ⊢ _ from .rfl)
  iapply (entry_run c) $$ Ht
  iintro Ht
  ihave H := Hk $$ [Hsc Ht]
  · isplitl [Hsc]
    · iexact Hsc
    · iexact Ht
  iexact H

omit xv wv Y K in
theorem fupd_lwp (bd : Option 𝒱₀.lift.V) (p : LoopProg F) (Q : PUnit → sProp 𝕄) : iprop(|={Set.univ}=> lwp c bd p Q) ⊢ lwp c bd p Q := by
  unfold lwp
  exact fupd_wp _ _ _ _ _

omit xv wv Y K in
theorem lwp_fupd (bd : Option 𝒱₀.lift.V) (p : LoopProg F) (Q : PUnit → sProp 𝕄) : lwp c bd p (fun r => iprop(|={Set.univ}=> Q r)) ⊢ lwp c bd p Q := by
  unfold lwp
  exact wp_fupd _ _ _ _ _

/-! ## The launch's share, and the loop's -/

/-- What the launch deals a device: what it owes and is owed, the duties it does at its peers, and its own copies'
    invariants still to be opened. -/
def Deal : sProp 𝕄 :=
  iprop((∃ W, owes (c : Thread nD τ) (owed c 0 0) W) ∗ (cred (tallyAt (barCell c) () 15) ∗ atPos ER (barCell c) 0 ∅ 0)
    ∗ (bigSep Finset.univ fun t : Fin 15 => dutyTok ER (barCell (nxt c t)) 0 t)
    ∗ (bigSep Finset.univ fun t : Fin 15 => dutyTok ER (recvCell (nxt c t) t) 0 0)
    ∗ (bigSep Finset.univ fun t : Fin 15 => dutyTok ER (sendCell c t) 0 0)
    ∗ (bigSep Finset.univ fun t : Fin 15 => iprop(openTok ER (sendCell c t) ∗ openTok ER (recvCell c t)))
    ∗ bigSep Finset.univ fun t : Fin 15 => cred (tallyAt (recvCell c t) () N))

omit xv wv Y K in
theorem sigs_eq : (bigSep (from_ 0) (sigRes c) : sProp 𝕄)
    = iprop((bigSep Finset.univ fun t : Fin 15 => dutyTok ER (barCell (nxt c t)) 0 t) ∗ (bigSep Finset.univ fun t : Fin 15 => rowAny c (nxt c t))
      ∗ bigSep Finset.univ fun t : Fin 15 => reached ER (recvCell c t) 0) := by
  rw [peers_rev fun t : Fin 15 => (reached ER (recvCell c t) 0 : sProp 𝕄), from_zero, ← bigSep_sep', ← bigSep_sep']
  rfl

omit xv wv Y K in
theorem toks_eq : (bigSep Finset.univ (sendTok c) : sProp 𝕄)
    = iprop(((bigSep Finset.univ fun t : Fin 15 => dutyTok ER (recvCell (nxt c t) t) 0 0) ∗ (bigSep Finset.univ fun t : Fin 15 => dutyTok ER (sendCell c t) 0 0)
        ∗ bigSep Finset.univ fun t : Fin 15 => reached ER (sendCell c t) 0)
      ∗ bigSep Finset.univ (slotAny c)) := by
  rw [← bigSep_sep', ← bigSep_sep', ← bigSep_sep']
  rfl

omit xv wv Y K in
theorem drains_eq : (bigSep Finset.univ (drainRes c) : sProp 𝕄)
    = iprop((bigSep Finset.univ fun t : Fin 15 => cred (tallyAt (recvCell c t) () N)) ∗ (bigSep Finset.univ fun t : Fin 15 => atPos ER (sendCell c t) 0 ∅ 0)
        ∗ bigSep Finset.univ fun t : Fin 15 => atPos ER (recvCell c t) 0 ∅ 0) := by
  rw [← bigSep_sep', ← bigSep_sep']
  rfl

omit xv wv Y K in
theorem opened_eq : (bigSep Finset.univ fun t : Fin 15 => iprop((atPos ER (sendCell c t) 0 ∅ 0 ∗ reached ER (sendCell c t) 0)
          ∗ (atPos ER (recvCell c t) 0 ∅ 0 ∗ reached ER (recvCell c t) 0)) : sProp 𝕄)
    = iprop(((bigSep Finset.univ fun t : Fin 15 => atPos ER (sendCell c t) 0 ∅ 0) ∗ bigSep Finset.univ fun t : Fin 15 => reached ER (sendCell c t) 0)
      ∗ (bigSep Finset.univ fun t : Fin 15 => atPos ER (recvCell c t) 0 ∅ 0) ∗ bigSep Finset.univ fun t : Fin 15 => reached ER (recvCell c t) 0) := by
  rw [← bigSep_sep', ← bigSep_sep', ← bigSep_sep']

omit wv Y K xv in
theorem stg0_eq : (iprop(∃ f, (c : Thread nD τ).loc cc0_stg1_0 ↦{fullShare} f) : sProp 𝕄)
    = iprop(∃ f, (stage0_1 0).view.loc (c : Thread nD τ) ↦[(stage0_1 0).view.set]{fullShare} f) := by
  rw [show (stage0_1 0).view.set = Finset.univ from View.set_whole _]
omit wv Y K xv in
theorem stg1_eq : (iprop(∃ f, (c : Thread nD τ).loc cc0_stg1_1 ↦{fullShare} f) : sProp 𝕄)
    = iprop(∃ f, (stage0_1 1).view.loc (c : Thread nD τ) ↦[(stage0_1 1).view.set]{fullShare} f) := by
  rw [show (stage0_1 1).view.set = Finset.univ from View.set_whole _]

omit Y K xv in
/-- The second operand in halves. -/
theorem halves_eq : ((c : Thread nD τ).loc main_arg1 ↦{fullShare} wv : sProp 𝕄)
    = iprop(((c : Thread nD τ).loc main_arg1 ↦{shr 0} wv) ∗ ((c : Thread nD τ).loc main_arg1 ↦{shr 1} wv)) := by
  rw [show shr 0 = fullShare.left from if_pos rfl, show shr 1 = fullShare.right from if_neg (by decide)]
  exact equiv_iff.mp ⟨(pointsTo_share (PosShare.mem_left_op_right fullShare)).1, (pointsTo_share (PosShare.mem_left_op_right fullShare)).2⟩

/-- What the region is given, as the loop takes it. -/
theorem deal_before (q : PosShare TreeShare) :
    iprop(recs Y K ∗ Deal c ∗ scopedBufs (c : Thread nD τ) ∗ scopedSems0 (c : Thread nD τ)
        ∗ ((c : Thread nD τ).loc main_arg0 ↦{fullShare} xv) ∗ ((c : Thread nD τ).loc main_arg1 ↦{fullShare} wv)
        ∗ ((c : Thread nD τ).loc main_v8 ↦{q} tab c) ∗ (∃ f, (c : Thread nD τ).loc main_v9 ↦{fullShare} f))
      ⊢ iprop(|={Set.univ}=> Before c xv wv q) := by
  rw [bufs_eq, sems_eq, halves_eq, stg0_eq, stg1_eq]
  unfold Deal
  iintro ⟨#HR, ⟨Ho, Hb, Htb, Htr, Hts, Hop, Hcr⟩, ⟨Hx, Hw0, Hw1, ⟨%fo, Hout⟩, ⟨%fc, Hcom⟩⟩, ⟨⟨Hv0, Hv1, Hv2, Hv3⟩, Hvs, Hvr⟩, Ha0, ⟨Hl, Hr⟩, H8, H9⟩
  imod (cells_open Y K c) $$ [Hop Hvs Hvr] with H
  · isplitr; · iexact HR
    isplitl [Hop]; · iexact Hop
    isplitl [Hvs]; · iexact Hvs
    iexact Hvr
  ihave H := (Entails.of_eq (opened_eq c)) $$ H
  icases H with ⟨⟨Hps, Hrs⟩, Hpr, Hrr⟩
  ihave Hrows := (rows_split c fo) $$ Hout
  icases Hrows with ⟨Hown, Hrows⟩
  ihave Hslots := (slots_split c fc) $$ Hcom
  imodintro
  unfold Before sigSt
  isplitl [Ho Hb Htb Hrows Hrr]
  · isplitl [Ho Htb Hrows Hrr]
    · isplitl [Ho]; · iexact Ho
      iapply (Entails.of_eq (sigs_eq c).symm)
      isplitl [Htb]; · iexact Htb
      isplitl [Hrows]; · iexact Hrows
      iexact Hrr
    iexact Hb
  isplitl [Hown]; · iexact Hown
  isplitl [Htr Hts Hrs Hslots]
  · iapply (Entails.of_eq (toks_eq c).symm)
    isplitl [Htr Hts Hrs]
    · isplitl [Htr]; · iexact Htr
      isplitl [Hts]; · iexact Hts
      iexact Hrs
    iexact Hslots
  isplitl [Hcr Hps Hpr H8 H9 Hv3]
  · unfold Kept OIdle
    isplitl [Hcr Hps Hpr]
    · iapply (Entails.of_eq (drains_eq c).symm)
      isplitl [Hcr]; · iexact Hcr
      isplitl [Hps]; · iexact Hps
      iexact Hpr
    isplitl [H8]; · iexact H8
    isplitl [H9]; · iexact H9
    iexact Hv3
  isplitl [Ha0 Hx Hv0]
  · unfold XIdle
    isplitl [Ha0]; · iexact Ha0
    isplitl [Hx]; · iexact Hx
    iexact Hv0
  isplitl [Hl Hw0 Hv1]
  · rw [show slotOf 0 = 0 from rfl]
    unfold WIdle
    isplitl [Hl]; · iexact Hl
    isplitl [Hw0]; · iexact Hw0
    iexact Hv1
  rw [show slotOf 1 = 1 from rfl]
  unfold WIdle
  isplitl [Hr]; · iexact Hr
  isplitl [Hw1]; · iexact Hw1
  iexact Hv2

omit Y K wv in
theorem xhave_buf : (XHave c xv : sProp 𝕄) ⊢ iprop(((c : Thread nD τ).loc main_arg0 ↦{fullShare} xv)
    ∗ (∃ f, (c : Thread nD τ).loc cc0_stg0_0 ↦{fullShare} f) ∗ semVal ((c : Thread nD τ), .dma cc0_sem0_0) 0) := by
  unfold XHave owns
  rw [show (stage0_0 0).view.set = Finset.univ from View.set_whole _]
  iintro ⟨Hw, ⟨%f, -, Hs⟩, Hv⟩
  isplitl [Hw]; · iexact Hw
  isplitl [Hs]
  · iexists f; iexact Hs
  iexact Hv

/-- What the loop leaves, as the region gives it back. -/
theorem after_deal (q : PosShare TreeShare) :
    iprop(recs Y K ∗ After Y c xv wv q)
      ⊢ iprop(|={Set.univ}=> ((scopedSems0 (c : Thread nD τ) ∗ scopedBufs (c : Thread nD τ)) ∗ ((∃ W, owes (c : Thread nD τ) 0 W) ∗ semVal (barCell c) 0)
        ∗ ((c : Thread nD τ).loc main_arg0 ↦{fullShare} xv) ∗ ((c : Thread nD τ).loc main_arg1 ↦{fullShare} wv)
        ∗ ((c : Thread nD τ).loc main_v8 ↦{q} tab c) ∗ ((c : Thread nD τ).loc main_v9 ↦{fullShare} stack fun b => Y b c))) := by
  rw [bufs_eq, sems_eq, halves_eq, stg0_eq, stg1_eq]
  unfold After
  rw [show slotOf 0 = 0 from rfl, show slotOf 1 = 1 from rfl]
  unfold WIdle
  iintro ⟨#HR, Ho, Hb, ⟨Hslots, Hpos⟩, H8, Hx, ⟨Hl, Hw0, Hv1⟩, ⟨Hr, Hw1, Hv2⟩, H9, Hout, Hv3⟩
  imod (cells_close Y K c) $$ [Hpos] with Hv
  · isplitr; · iexact HR
    iexact Hpos
  imod (bar_close Y K c) $$ [Hb] with Hb
  · isplitr; · iexact HR
    iexact Hb
  icases Hv with ⟨Hvs, Hvr⟩
  ihave Hx := (xhave_buf c xv) $$ Hx
  icases Hx with ⟨Ha0, Hx, Hv0⟩
  ihave Hcom := (slots_join c) $$ Hslots
  imodintro
  isplitl [Hv0 Hv1 Hv2 Hv3 Hvs Hvr Hx Hw0 Hw1 Hout Hcom]
  · isplitl [Hv0 Hv1 Hv2 Hv3 Hvs Hvr]
    · isplitl [Hv0 Hv1 Hv2 Hv3]
      · isplitl [Hv0]; · iexact Hv0
        isplitl [Hv1]; · iexact Hv1
        isplitl [Hv2]; · iexact Hv2
        iexact Hv3
      isplitl [Hvs]; · iexact Hvs
      iexact Hvr
    isplitl [Hx]; · iexact Hx
    isplitl [Hw0]; · iexact Hw0
    isplitl [Hw1]; · iexact Hw1
    isplitl [Hout]
    · iexists _; iexact Hout
    iexact Hcom
  isplitl [Ho Hb]
  · isplitl [Ho]; · iexact Ho
    iexact Hb
  isplitl [Ha0]; · iexact Ha0
  isplitl [Hl Hr]
  · isplitl [Hl]; · iexact Hl
    iexact Hr
  isplitl [H8]; · iexact H8
  iexact H9

/-- The region: from the arrays and the launch's share to the arrays with the device's rows of the result, nothing owed
    and the barrier's counter at zero. -/
theorem region_run (hY : ∀ d, Y c d = k0_pay1 xv (wblk wv d)) {β : Type} {k : PUnit → RunProg F β} {Q : β → sProp 𝕄} :
    iprop(((scopedBufs (c : Thread nD τ) ∗ scopedSems0 (c : Thread nD τ)) ∗ recs Y K ∗ levAts L lv ∗ Deal c)
        ∗ ((c : Thread nD τ).loc main_arg0 ↦{fullShare} xv) ∗ ((c : Thread nD τ).loc main_arg1 ↦{fullShare} wv)
        ∗ ((c : Thread nD τ).loc main_v8 ↦{fullShare} tab c) ∗ (∃ f, (c : Thread nD τ).loc main_v9 ↦{fullShare} f))
      ⊢ iprop((((scopedBufs (c : Thread nD τ) ∗ scopedSems0 (c : Thread nD τ)) ∗ ((∃ W, owes (c : Thread nD τ) 0 W) ∗ semVal (barCell c) 0)
            ∗ ((c : Thread nD τ).loc main_arg0 ↦{fullShare} xv) ∗ ((c : Thread nD τ).loc main_arg1 ↦{fullShare} wv)
            ∗ ((c : Thread nD τ).loc main_v8 ↦{fullShare} tab c) ∗ ((c : Thread nD τ).loc main_v9 ↦{fullShare} stack fun b => Y b c))
          -∗ run_wp c (k ⟨⟩) Q)
        -∗ run_wp c (.op (.customCall (Pipeline.entry 0) ()) k) Q) := by
  iintro ⟨⟨⟨Hsc, Hss⟩, #HR, #Hl, Hd⟩, H0, H1, H8, H9⟩ Hk
  iapply (region_enter c) $$ [Hsc H8]
  · isplitl [Hsc]
    · iexact Hsc
    · iexact H8
  iintro ⟨Hsc, H8⟩
  iapply fupd_lwp
  imod (deal_before Y K c xv wv fullShare) $$ [Hd Hsc Hss H0 H1 H8 H9] with HB
  · isplitr; · iexact HR
    isplitl [Hd]; · iexact Hd
    isplitl [Hsc]; · iexact Hsc
    isplitl [Hss]; · iexact Hss
    isplitl [H0]; · iexact H0
    isplitl [H1]; · iexact H1
    isplitl [H8]; · iexact H8
    iexact H9
  imodintro
  iapply lwp_fupd
  iapply (loop Y K c xv wv fullShare hY) $$ [HB]
  · isplitr; · iexact HR
    isplitr; · iexact Hl
    iexact HB
  iintro HA
  imod (after_deal Y K c xv wv fullShare) $$ [HA] with ⟨⟨Hss, Hsc⟩, Hend⟩
  · isplitr; · iexact HR
    iexact HA
  imodintro
  isplitl [Hss]; · iexact Hss
  iintro Hss
  isplitl [Hsc]; · iexact Hsc
  iintro Hsc
  iapply Hk
  isplitl [Hsc Hss]
  · isplitl [Hsc]
    · iexact Hsc
    · iexact Hss
  iexact Hend

end Cert.KernelIdeal.A2A
-- ==== Proof.KernelIdeal.Deal.lean ====
/-
  What the launch deals: the invariants of every cell of the protocol, and to each device its share of the tokens, of the
  rights to open and of the credit.
-/
module

public import proofs.«01_k».proof.Proof.KernelIdeal.Region

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

/-! ## The cells and the tokens -/

/-- A device's copies' semaphores: the sending one and the receiving one of each peer. -/
abbrev semOf : Fin 15 × Fin 2 → SemLoc sig := fun p => if p.2 = 0 then .dma (sendS p.1) else .dma (recvS p.1)
theorem semOf_inj : Function.Injective semOf := by decide +kernel
theorem semOf_ne : ∀ p, semOf p ≠ .reg barrier0 := by decide +kernel

def barEmb : Dev nD ↪ GSem nD τ sig := ⟨fun c => barCell c, fun _ _ h => congrArg (fun g : GSem nD τ sig => g.1.1) h⟩
def copyEmb : Dev nD × (Fin 15 × Fin 2) ↪ GSem nD τ sig :=
  ⟨fun p => ((p.1 : Thread nD τ), semOf p.2), fun _ _ h =>
    Prod.ext (congrArg (fun g : GSem nD τ sig => g.1.1) h) (semOf_inj (congrArg Prod.snd h))⟩

/-- The barrier cells, whose counters the launch has; the copies' cells, opened by the region. -/
abbrev barCells : Finset (GSem nD τ sig) := Finset.univ.map barEmb
abbrev copyCells : Finset (GSem nD τ sig) := Finset.univ.map copyEmb

theorem cells_disj : Disjoint (barCells : Finset (GSem nD τ sig)) copyCells := by
  rw [Finset.disjoint_left]
  rintro g h₁ h₂
  obtain ⟨c, -, rfl⟩ := Finset.mem_map.mp h₁
  obtain ⟨p, -, h⟩ := Finset.mem_map.mp h₂
  exact semOf_ne p.2 (congrArg Prod.snd h)

theorem bar_mem (c : Dev nD) : barCell c ∈ (barCells ∪ copyCells : Finset (GSem nD τ sig)) :=
  Finset.mem_union_left _ (Finset.mem_map_of_mem barEmb (Finset.mem_univ c))
theorem send_mem (c : Dev nD) (t : Fin 15) : sendCell c t ∈ (barCells ∪ copyCells : Finset (GSem nD τ sig)) :=
  Finset.mem_union_right _ (Finset.mem_map_of_mem copyEmb (Finset.mem_univ (c, (t, (0 : Fin 2)))))
theorem recv_mem (c : Dev nD) (t : Fin 15) : recvCell c t ∈ (barCells ∪ copyCells : Finset (GSem nD τ sig)) :=
  Finset.mem_union_right _ (Finset.mem_map_of_mem copyEmb (Finset.mem_univ (c, (t, (1 : Fin 2)))))

/-- A device's duties: fifteen at its barrier cell, one at each of its copies' cells. -/
abbrev dutyAt : Fin 15 × Fin 3 → SemLoc sig × Fin 15 := fun p =>
  if p.2 = 0 then (.reg barrier0, p.1) else if p.2 = 1 then (.dma (sendS p.1), 0) else (.dma (recvS p.1), 0)
theorem dutyAt_inj : Function.Injective dutyAt := by decide +kernel
def dutyEmb : Dev nD × (Fin 15 × Fin 3) ↪ GSem nD τ sig × ℕ × Fin 15 :=
  ⟨fun p => (((p.1 : Thread nD τ), (dutyAt p.2).1), 0, (dutyAt p.2).2), fun _ _ h =>
    Prod.ext (congrArg (fun x : GSem nD τ sig × ℕ × Fin 15 => x.1.1.1) h)
      (dutyAt_inj (Prod.ext (congrArg (fun x : GSem nD τ sig × ℕ × Fin 15 => x.1.2) h) (congrArg (fun x : GSem nD τ sig × ℕ × Fin 15 => x.2.2) h)))⟩
abbrev dutyToks : Finset (GSem nD τ sig × ℕ × Fin 15) := Finset.univ.map dutyEmb

omit [FloatOps F] in
theorem fin3 (Φ : Fin 3 → sProp 𝕄) : bigSep Finset.univ Φ = iprop(Φ 0 ∗ Φ 1 ∗ Φ 2) :=
  bigSep_eq_bigSepL_of_eq [0, 1, 2] (by decide) (by decide) Φ

omit [FloatOps F] in
theorem swap23 (A B C : sProp 𝕄) : iprop(A ∗ B ∗ C) = iprop(A ∗ C ∗ B) := by
  have h : ∀ B C : sProp 𝕄, iprop(A ∗ B ∗ C) ⊢ iprop(A ∗ C ∗ B) := fun B C => by
    iintro ⟨H1, H2, H3⟩
    isplitl [H1]; · iexact H1
    isplitl [H3]; · iexact H3
    iexact H2
  exact equiv_iff.mp ⟨h B C, h C B⟩

omit [FloatOps F] in
theorem part_of {I : Type} [DecidableEq I] {s t : Finset I} (h : t ⊆ s) (Φ : I → sProp 𝕄) : bigSep s Φ ⊢ bigSep t Φ := by
  have e : bigSep s Φ = iprop(bigSep t Φ ∗ bigSep (s \ t) Φ) := BI.bigSep_sdiff_split h
  rw [e]
  iintro ⟨H, -⟩
  iexact H

/-- A family over devices and peers, each entry handed to the device `nxt` names. -/
theorem nxt_around (Φ : Dev nD → Fin 15 → sProp 𝕄) :
    (bigSep Finset.univ fun c : Dev nD => bigSep Finset.univ fun t : Fin 15 => Φ c t)
      = bigSep Finset.univ fun c : Dev nD => bigSep Finset.univ fun t : Fin 15 => Φ (nxt c t) t := by
  rw [← bigSep_univ_prod (fun p : Dev nD × Fin 15 => Φ p.1 p.2), bigSep_univ_equiv payEquiv, bigSep_univ_prod]
  rfl

/-- The tokens, each to the device that does the duty. -/
theorem toks_deal : (bigSep dutyToks fun x => (dutyTok ER x.1 x.2.1 x.2.2 : sProp 𝕄))
    = bigSep Finset.univ fun c : Dev nD => iprop((bigSep Finset.univ fun t : Fin 15 => dutyTok ER (barCell (nxt c t)) 0 t)
      ∗ (bigSep Finset.univ fun t : Fin 15 => dutyTok ER (recvCell (nxt c t) t) 0 0)
      ∗ bigSep Finset.univ fun t : Fin 15 => dutyTok ER (sendCell c t) 0 0) := by
  rw [bigSep_sep', bigSep_sep', ← nxt_around fun c t => (dutyTok ER (barCell c) 0 t : sProp 𝕄), ← nxt_around fun c t => (dutyTok ER (recvCell c t) 0 0 : sProp 𝕄),
    ← bigSep_sep', ← bigSep_sep', bigSep_map, bigSep_univ_prod]
  refine bigSep_congr fun c _ => ?_
  rw [bigSep_univ_prod, ← bigSep_sep', ← bigSep_sep']
  refine bigSep_congr fun t _ => ?_
  rw [fin3]
  exact swap23 _ _ _

theorem opens_deal : (bigSep copyCells fun g => (openTok ER g : sProp 𝕄))
    = bigSep Finset.univ fun c : Dev nD => bigSep Finset.univ fun t : Fin 15 => iprop(openTok ER (sendCell c t) ∗ openTok ER (recvCell c t)) := by
  rw [bigSep_map, bigSep_univ_prod]
  refine bigSep_congr fun c _ => ?_
  rw [bigSep_univ_prod]
  exact bigSep_congr fun t _ => BI.bigSep_fin_two _

/-! ## The credit -/

/-- What a device owes at the start. -/
abbrev dues (c : Dev nD) : CellTallies nD τ sig Unit := owed c 0 0

theorem dues_apply (d : Dev nD) (g : GSem nD τ sig) :
    dues d g () = ∑ t : Fin 15, (tallyAt (barCell (nxt d t)) () 1 g () + tallyAt (recvCell (nxt d t) t) () N g ()) := by
  unfold dues owed
  rw [show Finset.univ.filter (fun t : Fin 15 => 0 ≤ t.val) = Finset.univ from from_zero, Pi.add_apply, Finsupp.add_apply, Finset.sum_apply, Finset.sum_apply, Finsupp.finset_sum_apply, Finsupp.finset_sum_apply, Finset.sum_add_distrib]

theorem sum_nxt (f : Dev nD → Fin 15 → ℕ) : (∑ d : Dev nD, ∑ t : Fin 15, f (nxt d t) t) = ∑ d : Dev nD, ∑ t : Fin 15, f d t := by
  rw [← Fintype.sum_prod_type' f, ← Equiv.sum_comp payEquiv, Fintype.sum_prod_type]
  rfl

theorem all_dues (g : GSem nD τ sig) :
    launchCredit (Pipeline.owing dues) 0 g () = ∑ d : Dev nD, ∑ t : Fin 15, (tallyAt (barCell d) () 1 g () + tallyAt (recvCell d t) () N g ()) := by
  rw [Pipeline.launchCredit_owing, Finset.sum_congr rfl fun d _ => dues_apply d g]
  exact sum_nxt fun d t => tallyAt (barCell d) () 1 g () + tallyAt (recvCell d t) () N g ()

theorem recv_ne_bar (c d : Dev nD) (t : Fin 15) : recvCell c t ≠ barCell d := fun h => by
  have := congrArg Prod.snd h; cases this

theorem credit_bar (c : Dev nD) :
    tallyOn (barCell c) (launchCredit (Pipeline.owing dues) 0 (barCell c)) = (tallyAt (barCell c) () 15 : CellTallies nD τ sig Unit) := by
  unfold tallyAt; refine congrArg _ (Finsupp.ext fun u => ?_); cases u
  rw [all_dues, Finsupp.single_eq_same, Finset.sum_eq_single c]
  · rw [Finset.sum_congr rfl fun t _ => show (tallyAt (barCell c) () 1 (barCell c) () + tallyAt (recvCell c t) () N (barCell c) () : ℕ) = 1 by
      rw [tallyAt_ne_cell (recv_ne_bar c c t).symm, tallyAt_apply, if_pos ⟨rfl, rfl⟩]; rfl]
    rfl
  · intro d _ hd
    refine Finset.sum_eq_zero fun t _ => ?_
    rw [tallyAt_ne_cell (recv_ne_bar d c t).symm, tallyAt_ne_cell fun h => hd (congrArg (fun g : GSem nD τ sig => g.1.1) h).symm]; rfl
  · intro h; exact absurd (Finset.mem_univ c) h

theorem credit_recv (c : Dev nD) (u : Fin 15) :
    tallyOn (recvCell c u) (launchCredit (Pipeline.owing dues) 0 (recvCell c u)) = (tallyAt (recvCell c u) () N : CellTallies nD τ sig Unit) := by
  unfold tallyAt; refine congrArg _ (Finsupp.ext fun v => ?_); cases v
  rw [all_dues, Finsupp.single_eq_same, Finset.sum_eq_single c]
  · rw [Finset.sum_eq_single u]
    · rw [tallyAt_ne_cell (recv_ne_bar c c u), tallyAt_apply, if_pos ⟨rfl, rfl⟩]; exact Nat.zero_add _
    · intro t _ ht
      rw [tallyAt_ne_cell (recv_ne_bar c c u), tallyAt_ne_cell fun h => ht (recvCell_inj h).2.symm]; rfl
    · intro h; exact absurd (Finset.mem_univ u) h
  · intro d _ hd
    refine Finset.sum_eq_zero fun t _ => ?_
    rw [tallyAt_ne_cell (recv_ne_bar c d u), tallyAt_ne_cell fun h => hd (recvCell_inj h).1.symm]; rfl
  · intro h; exact absurd (Finset.mem_univ c) h

def recvEmb : Fin 15 ↪ SemLoc sig := ⟨fun t => .dma (recvS t), fun _ _ h => (recvCell_inj (c := 0) (c' := 0) (congrArg (Prod.mk _) h)).2⟩

/-- A device's credit: the barrier's fifteen units, and a copy's bytes on each of its receiving cells. -/
theorem credits (c : Dev nD) : (Pipeline.launchCred dues c : sProp 𝕄)
    ⊢ iprop(cred (tallyAt (barCell c) () 15) ∗ bigSep Finset.univ fun t : Fin 15 => cred (tallyAt (recvCell c t) () N)) := by
  unfold Pipeline.launchCred
  rw [bigSep_univ_at _ (SemLoc.reg barrier0)]
  iintro ⟨Hb, Hr⟩
  ihave Hr := (part_of (show recvs ⊆ Finset.univ.erase (SemLoc.reg barrier0) by decide +kernel) _) $$ Hr
  isplitl [Hb]
  · rw [← credit_bar]; iexact Hb
  · iapply (show (bigSep recvs fun sm : SemLoc sig => (cred (tallyOn ((c.tc : Thread nD τ), sm) (launchCredit (Pipeline.owing dues) 0 ((c.tc : Thread nD τ), sm))) : sProp 𝕄))
        ⊢ bigSep Finset.univ fun t : Fin 15 => cred (tallyAt (recvCell c t) () N) from
      Entails.of_eq (by
        rw [show recvs = Finset.univ.map recvEmb from (Finset.map_eq_image recvEmb _).symm, bigSep_map]
        exact bigSep_congr fun t _ => by rw [← credit_recv]; rfl))
    iexact Hr

end Cert.KernelIdeal.A2A
-- ==== Proof.KernelIdeal.Host.lean ====
/-
  The host's table: on device `c` its word `j` is `(c + j) mod 16`.
-/
module

public import proofs.«01_k».proof.Proof.KernelIdeal.Body
public import proofs.«01_k».proof.Proof.Gen.KernelIdeal.Regions
public import Idealize.ShloMosaic.Lib.StableHlo.ReadAt

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

theorem table (m : (ℓ : Loc nD τ sig) → Buf (Elt F) ℓ) (c : Dev nD) : V2 m c main_v8 = tab (F := F) c := by
  funext j
  unfold V2 V1 tab
  after_reads_at
  have hj : (j 0).val < 16 := (j 0).isLt
  generalize (j 0).val = k at hj
  clear j m
  revert k
  revert c
  dsimp only [id, constantI, Host.remui, Host.divui]
  show ∀ c : Fin 16, ∀ k, k < 16 → @Eq (BitVec 32) _ _
  clear * -
  decide +kernel

end Cert.KernelIdeal.A2A
-- ==== Proof.KernelIdeal.Launch.lean ====
/-
  The whole run: the host's table, the region, and the memory at the end.
-/
module

public import proofs.«01_k».proof.Proof.KernelIdeal.Deal
public import proofs.«01_k».proof.Proof.KernelIdeal.Host

@[expose] public section

set_option maxRecDepth 16384

noncomputable section

namespace Cert.KernelIdeal.A2A

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig Unit (Elt F) ℕ UU ℕ

variable (m : (ℓ : Loc nD τ sig) → Buf (Elt F) ℓ)

/-- What device `s` computes for device `d`: its rows of the first operand times `d`'s columns of the second, the
    negative entries cut off, rounded. -/
def prod (s d : Dev nD) : FVec F S512x256 .bf16 :=
  k0_pay1 (m ((s : Thread nD τ).loc main_arg0)) (wblk (m ((s : Thread nD τ).loc main_arg1)) d)

/-- Device `c`'s result: the products for it, by device. -/
def result (c : Dev nD) : S8192x256.Idx → Elt F .bf16 := stack fun b => prod m b c

/-- The buffers at the end. -/
def V3' (c : Dev nD) : Valuation τ sig (Elt F) := Function.update (V2 m c) main_v9 (result m c)

/-- What rides along the host's operations, -/
def rest0 (c : Dev nD) : sProp 𝕄 := iprop(∃ K, recs (prod m) K ∗ Deal c)
/-- and what the region leaves beside the buffers. -/
def rest1 (c : Dev nD) : sProp 𝕄 := iprop((∃ W, owes (c : Thread nD τ) 0 W) ∗ semVal (barCell c) 0)

theorem V2_arg0 (c : Dev nD) : V2 m c main_arg0 = m ((c : Thread nD τ).loc main_arg0) :=
  (V2_of m c main_arg0 (by decide)).trans <| (V1_of m c main_arg0 (by decide)).trans rfl
theorem V2_arg1 (c : Dev nD) : V2 m c main_arg1 = m ((c : Thread nD τ).loc main_arg1) :=
  (V2_of m c main_arg1 (by decide)).trans <| (V1_of m c main_arg1 (by decide)).trans rfl
theorem V3_of' (c : Dev nD) (r : DevRef τ sig) (h : r ≠ Proc.devRef .tc main_v9) : V3' m c r = V2 m c r :=
  Function.update_of_ne h _ _
theorem V3_v9 (c : Dev nD) : V3' m c main_v9 = result m c := Function.update_self _ _ _

theorem held_end (c : Dev nD) : (StableHlo.held (c : Thread nD τ) (Pipeline.ucRefs τ sig) (V3' m c) : sProp 𝕄)
    = iprop((((c : Thread nD τ).loc main_arg0 ↦{fullShare} V2 m c main_arg0) ∗ ((c : Thread nD τ).loc main_arg1 ↦{fullShare} V2 m c main_arg1)
        ∗ ((c : Thread nD τ).loc main_v8 ↦{fullShare} V2 m c main_v8) ∗ ((c : Thread nD τ).loc main_v9 ↦{fullShare} result m c))
      ∗ StableHlo.held (c : Thread nD τ) (Pipeline.ucRefs τ sig \ used) (V2 m c)) := by
  rw [held_used c (V3' m c), V3_of' m c main_arg0 (by decide), V3_of' m c main_arg1 (by decide), V3_of' m c main_v8 (by decide), V3_v9,
    StableHlo.held_congr (c : Thread nD τ) (V := V3' m c) (V' := V2 m c) fun b hb => V3_of' m c b fun h => (Finset.mem_sdiff.mp hb).2 (by rw [h]; decide)]

/-- The region as an item of @main. -/
def seg2 : Pipeline.HostSeg (Ix := Unit) (Name := ℕ) (U := UU) (Lvl := ℕ) (pcfgs (F := F)) defs₀ 𝒱₀ L lv where
  prog := Prog.lift (.customCall (Pipeline.entry 0) ())
  pre c := iprop(StableHlo.held (c : Thread nD τ) (Pipeline.ucRefs τ sig) (V2 m c) ∗ rest0 m c)
  post c := iprop(StableHlo.held (c : Thread nD τ) (Pipeline.ucRefs τ sig) (V3' m c) ∗ rest1 c)
  run c β k Q := by
    show iprop((iprop(boundary (c : Thread nD τ) ∗ StableHlo.held (c : Thread nD τ) (Pipeline.ucRefs τ sig) (V3' m c) ∗ rest1 c) -∗ run_wp c (k ⟨⟩) Q)
        ∗ boundary (c : Thread nD τ) ∗ (StableHlo.held (c : Thread nD τ) (Pipeline.ucRefs τ sig) (V2 m c) ∗ rest0 m c) ∗ levAts L lv)
      ⊢ run_wp c (.op (.customCall (Pipeline.entry 0) ()) k) Q
    rw [held_end, held_used c (V2 m c), V2_arg0, V2_arg1, table]
    unfold rest0 rest1 boundary
    iintro ⟨Hk, ⟨Hsc, Hss, Hop⟩, ⟨⟨⟨H0, H1, H8, H9⟩, Hh⟩, ⟨%K, #HR, Hd⟩⟩, #Hl⟩
    iapply (region_run (prod m) K c (m ((c : Thread nD τ).loc main_arg0)) (m ((c : Thread nD τ).loc main_arg1)) (fun _ => rfl)) $$ [Hsc Hss Hd H0 H1 H8 H9]
    · isplitl [Hsc Hss Hd]
      · isplitl [Hsc Hss]
        · isplitl [Hsc]
          · iexact Hsc
          · iexact Hss
        isplitr; · iexact HR
        isplitr; · iexact Hl
        iexact Hd
      isplitl [H0]; · iexact H0
      isplitl [H1]; · iexact H1
      isplitl [H8]; · iexact H8
      iexists _; iexact H9
    iintro ⟨⟨Hsc, Hss⟩, He, H0, H1, H8, H9⟩
    iapply Hk
    isplitl [Hsc Hss Hop]
    · isplitl [Hsc]; · iexact Hsc
      isplitl [Hss]; · iexact Hss
      iexact Hop
    isplitl [H0 H1 H8 H9 Hh]
    · isplitl [H0 H1 H8 H9]
      · isplitl [H0]; · iexact H0
        isplitl [H1]; · iexact H1
        isplitl [H8]; · iexact H8
        iexact H9
      iexact Hh
    iexact He

/-! ## The launch -/

/-- One resource as a family: all of it on device 0. -/
def parked (X : sProp 𝕄) (c : Dev nD) : sProp 𝕄 := if c = 0 then X else iprop(emp)
omit [FloatOps F] in
theorem parked_all (X : sProp 𝕄) : bigSep Finset.univ (parked X) = X := by
  rw [bigSep_univ_at _ 0, bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol's part of the launch element. -/
abbrev seed : UB := launchOf barCells copyCells dutyToks

/-- The invariants all at once, and every barrier cell at its start. -/
def allRecs (K : GSem nD τ sig → ℕ) : sProp 𝕄 :=
  iprop((bigSep (barCells ∪ copyCells) fun g => cellInv ER (sched (prod m)) (K g) g) ∗ bigSep barCells fun g => reached ER g 0)

instance allRecs_persistent (K : GSem nD τ sig → ℕ) : BI.Persistent (allRecs m K) := by unfold allRecs; infer_instance

theorem allRecs_inv (K : GSem nD τ sig → ℕ) {g : GSem nD τ sig} (hg : g ∈ (barCells ∪ copyCells : Finset (GSem nD τ sig))) :
    allRecs m K ⊢ cellInv ER (sched (prod m)) (K g) g := by
  unfold allRecs
  iintro ⟨H, -⟩
  iapply (pick hg (Φ := fun g => (cellInv ER (sched (prod m)) (K g) g : sProp 𝕄)))
  iexact H
theorem allRecs_bar (K : GSem nD τ sig → ℕ) (c : Dev nD) : allRecs m K ⊢ reached ER (barCell c) 0 := by
  unfold allRecs
  iintro ⟨-, H⟩
  iapply (pick (Finset.mem_map_of_mem barEmb (Finset.mem_univ c)) (Φ := fun g => (reached ER g 0 : sProp 𝕄)))
  iexact H

omit [FloatOps F] in
/-- A family of things that each follow from something persistent. -/
theorem all_of {I : Type} [Fintype I] [DecidableEq I] (R : sProp 𝕄) [BI.Persistent R] (Φ : I → sProp 𝕄) (h : ∀ i, R ⊢ Φ i) :
    R ⊢ bigSep Finset.univ Φ := by
  have h' := bigSep_with_persistent (S := (Finset.univ : Finset I)) (R := R) (Φ := fun _ => (BI.emp : sProp 𝕄)) (Ψ := Φ) fun i _ => (by
    iintro ⟨H, -⟩
    iapply (h i)
    iexact H)
  rw [BI.bigSep_emp_const] at h'
  exact (BI.equiv_iff.mpr (BI.equiv_iff.mp sep_emp)).2.trans h'

theorem allRecs_recs (K : GSem nD τ sig → ℕ) : allRecs m K ⊢ recs (prod m) K := by
  unfold recs
  refine all_of _ _ fun c => ?_
  have h : allRecs m K ⊢ bigSep Finset.univ fun t : Fin 15 => iprop(cellInv ER (sched (prod m)) (K (sendCell c t)) (sendCell c t)
      ∗ cellInv ER (sched (prod m)) (K (recvCell c t)) (recvCell c t)) := all_of _ _ fun t => by
    iintro #H
    isplitr
    · iapply (allRecs_inv m K (send_mem c t)); iexact H
    · iapply (allRecs_inv m K (recv_mem c t)); iexact H
  iintro #H
  isplitr
  · isplitr
    · iapply (allRecs_inv m K (bar_mem c)); iexact H
    · iapply (allRecs_bar m K c); iexact H
  · iapply h; iexact H

/-- A device's share of the protocol's ghost state, -/
def share (c : Dev nD) : sProp 𝕄 :=
  iprop(atPos ER (barCell c) 0 ∅ 0 ∗ (bigSep Finset.univ fun t : Fin 15 => iprop(openTok ER (sendCell c t) ∗ openTok ER (recvCell c t)))
    ∗ ((bigSep Finset.univ fun t : Fin 15 => dutyTok ER (barCell (nxt c t)) 0 t)
      ∗ (bigSep Finset.univ fun t : Fin 15 => dutyTok ER (recvCell (nxt c t) t) 0 0)
      ∗ bigSep Finset.univ fun t : Fin 15 => dutyTok ER (sendCell c t) 0 0))
/-- and the rest of what it is launched with. -/
def given (c : Dev nD) : sProp 𝕄 :=
  iprop(StableHlo.held (c : Thread nD τ) (Pipeline.ucRefs τ sig) (V0 m c) ∗ owes (c : Thread nD τ) (dues c) ∅
    ∗ cred (tallyAt (barCell c) () 15) ∗ bigSep Finset.univ fun t : Fin 15 => cred (tallyAt (recvCell c t) () N))

theorem deal_intro (K : GSem nD τ sig → ℕ) (c : Dev nD) : iprop(allRecs m K ∗ (share c ∗ given m c))
    ⊢ iprop(StableHlo.held (c : Thread nD τ) (Pipeline.ucRefs τ sig) (V0 m c) ∗ rest0 m c) := by
  unfold share given rest0 Deal
  iintro ⟨#HR, ⟨Ha, Hop, Htb, Htr, Hts⟩, Hh, Ho, Hcb, Hcr⟩
  isplitl [Hh]; · iexact Hh
  iexists K
  isplitr
  · iapply (allRecs_recs m K); iexact HR
  isplitl [Ho]
  · iexists ∅; iexact Ho
  isplitl [Ha Hcb]
  · isplitl [Hcb]
    · iexact Hcb
    · iexact Ha
  isplitl [Htb]; · iexact Htb
  isplitl [Htr]; · iexact Htr
  isplitl [Hts]; · iexact Hts
  isplitl [Hop]; · iexact Hop
  iexact Hcr

omit [FloatOps F] in
theorem unscoped_bar (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, bigSep_singleton]

theorem launch_init (ρ : Dev nD → PrngReg) :
    iprop((bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ parked (BI.own (ER seed)) c)) ∗ levAts L lv)
      ⊢ (|={Set.univ}=> bigSep Finset.univ fun c : Dev nD => iprop(StableHlo.held (c : Thread nD τ) (Pipeline.ucRefs τ sig) (V0 m c) ∗ rest0 m c) : sProp 𝕄) := by
  have hcore (c : Dev nD) : iprop(unscopedBufs c (fun b => m ((c.tc : Thread nD τ).loc b)) ∗ unscopedSems0 c
        ∗ owes (c.tc : Thread nD τ) (dues c) ∅ ∗ Pipeline.launchCred dues c ∗ prngReg c (ρ c) ∗ parked (BI.own (ER seed)) c)
      ⊢ (iprop(given m c ∗ (semVal (barCell c) 0 ∗ parked (BI.own (ER seed)) c)) : sProp 𝕄) := by
    rw [show unscopedBufs c (fun b => m ((c.tc : Thread nD τ).loc b)) = _ from Pipeline.unscopedBufs_held (Ix := Unit) (Name := ℕ) (U := UU) (Lvl := ℕ) c (V0 m c), unscoped_bar]
    unfold given
    iintro ⟨Hh, Hb, Ho, Hc, -, HG⟩
    ihave Hc := (credits c) $$ Hc
    icases Hc with ⟨Hcb, Hcr⟩
    isplitl [Hh Ho Hcb Hcr]
    · isplitl [Hh]; · iexact Hh
      isplitl [Ho]; · iexact Ho
      isplitl [Hcb]; · iexact Hcb
      iexact Hcr
    isplitl [Hb]; · iexact Hb
    iexact HG
  have hall : (bigSep Finset.univ fun c : Dev nD => iprop(unscopedBufs c (fun b => m ((c.tc : Thread nD τ).loc b)) ∗ unscopedSems0 c
          ∗ owes (c.tc : Thread nD τ) (dues c) ∅ ∗ Pipeline.launchCred dues c ∗ prngReg c (ρ c) ∗ parked (BI.own (ER seed)) c) : sProp 𝕄)
      ⊢ iprop((bigSep Finset.univ (given m)) ∗ (bigSep barCells fun g => semVal g 0) ∗ BI.own (ER seed)) := by
    refine (bigSep_mono fun c _ => hcore c).trans ?_
    rw [bigSep_sep', bigSep_sep', parked_all, bigSep_map]
    exact Entails.of_eq (rfl : (_ : sProp 𝕄) = _)
  have hshare : iprop((bigSep barCells fun g => atPos ER g 0 ∅ 0) ∗ (bigSep copyCells fun g => openTok ER g)
      ∗ bigSep dutyToks fun x => (dutyTok ER x.1 x.2.1 x.2.2 : sProp 𝕄)) ⊢ bigSep Finset.univ share := by
    rw [toks_deal, opens_deal, bigSep_map, ← bigSep_sep', ← bigSep_sep']
    exact .rfl
  iintro ⟨H, -⟩
  ihave H := hall $$ H
  icases H with ⟨HB, Hv, Hu⟩
  imod (fund_launch ER (sched (prod m)) cells_disj (fun _ _ h => h) dutyToks) $$ [Hv Hu] with ⟨%K, -, #Hinv, #Hr, Hat, Hopen, Htok⟩
  · isplitl [Hv]
    · iexact Hv
    · iexact Hu
  imodintro
  iapply (bigSep_with_persistent (R := allRecs m K) (Φ := fun c => iprop(share c ∗ given m c)) fun c _ => deal_intro m K c)
  isplitr
  · unfold allRecs
    isplitr; · iexact Hinv
    iexact Hr
  iapply (Entails.of_eq (bigSep_sep' Finset.univ share (given m)).symm)
  isplitr [HB]
  · iapply hshare
    isplitl [Hat]; · iexact Hat
    isplitl [Hopen]; · iexact Hopen
    iexact Htok
  · iexact HB

/-! ## The run -/

/-- The tables the pipeline is taken at, as far as the launch asks: any admissible ones do. -/
abbrev anyAdm : (p : Fin 1) → (pcfgs (F := F) p).Adm := fun _ => adm 0
/-- No pipeline of the library is entered through its own records here; these fill their place. -/
def noDat : (p : Fin 1) → (c : Dev nD) → Pipeline.Dat τ (Elt F) Unit ℕ UU ℕ (Pipeline.pin (pcfgs (F := F)) anyAdm p) c := fun p c =>
  { A := fun w => m _
    after := Pipeline.Dat.unnamed
    Φ := fun _ => iprop(emp)
    q := fun _ => fullShare
    owed := fun _ => 0 }

abbrev items (c : Dev nD) : List (Pipeline.Seg (pcfgs (F := F)) anyAdm (noDat m) () defs₀ 𝒱₀ L lv) :=
  [.host (seg0 m 𝒱₀ L lv (fun _ c => rest0 m c) c), .host (seg1 m 𝒱₀ L lv fun _ c => rest0 m c), .host (seg2 m)]

theorem only_bar : ∀ sm : SemLoc sig, sm.isScoped .tc = false → sm = .reg barrier0 := by decide +kernel

set_option backward.isDefEq.respectTransparency.types false in
/-- From any memory with every counter zero, every weakly fair run of @main on the sixteen devices ends; the arguments are as
    they were, each device holds its result, and every counter is zero again. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v9) = result m c) ∧ r.2.sem = fun _ => 0) := by
  refine Pipeline.θ_run_regions_kit_dev_sems (pcfgs (F := F)) anyAdm (noDat m) () (cellOf_inj anyAdm) EP defs₀ 𝒱₀ L lv m ρ main
    (items m)
    (fun c Q => by
      rewrite [main_chain c, Pipeline.Seg.run_eq_chain,
        show (items m c).map Pipeline.Seg.prog = [
          StableHlo.seq (hostOps0 c),
          StableHlo.seq hostOps0_1,
          Prog.lift (.customCall (Pipeline.entry 0) ()) ] from rfl]
      dsimp (config := { failIfUnchanged := false }) only
      exact .rfl)
    (fun c => by simp only [items, Pipeline.Seg.pipes_host, Pipeline.Seg.pipes_nil]; decide) dues L_of_ne (parked (BI.own (ER seed)))
    (initOf (Pipeline.cells (Pipeline.pin (pcfgs (F := F)) anyAdm) (cellOf_inj anyAdm)) (Pipeline.launchToks (Pipeline.pin (pcfgs (F := F)) anyAdm) (cellOf_inj anyAdm)), (seed, 1)) ?_
    (T₀ := fun c => iprop(StableHlo.held (c : Thread nD τ) (Pipeline.ucRefs τ sig) (V0 m c) ∗ rest0 m c))
    (Tₙ := fun c => iprop(StableHlo.held (c : Thread nD τ) (Pipeline.ucRefs τ sig) (V3' m c) ∗ semVal (barCell c) 0))
    (hch := fun c => ⟨.rfl, .rfl, .rfl, ?_⟩)
    (hinit := launch_init m ρ)
    (QY := fun c s => (s.mem ((c : Thread nD τ).loc main_arg0) = m ((c : Thread nD τ).loc main_arg0)
      ∧ s.mem ((c : Thread nD τ).loc main_arg1) = m ((c : Thread nD τ).loc main_arg1) ∧ s.mem ((c : Thread nD τ).loc main_v9) = result m c)
      ∧ s.sem (barCell c) = 0)
    (hfin := fun c s' => ?_) (hQ := fun s h hs => ⟨fun c => (h c).1, sem_eq_zero hs fun c sm hsm => by
      obtain rfl := only_bar sm hsm
      exact (h c).2⟩)
  · iintro Hu
    ihave H := (own_split _ _) $$ Hu
    icases H with ⟨HP, HX⟩
    imodintro
    isplitl [HP]; · iexact HP
    rw [parked_all]; iexact HX
  · show iprop(StableHlo.held (c : Thread nD τ) (Pipeline.ucRefs τ sig) (V3' m c) ∗ rest1 c) ⊢ _
    unfold rest1
    iintro ⟨Hh, Ho, Hb⟩
    isplitl [Hh Hb]
    · isplitl [Hh]
      · iexact Hh
      · iexact Hb
    iexact Ho
  · unfold StableHlo.held
    iintro ⟨⟨Hh, Hb⟩, HSI⟩
    icombine HSI Hb gives %hb
    ihave Hr := (pointsTo_read_all (Pipeline.ucRefs τ sig) (fun b => ((c : Thread nD τ).1, b)) (V3' m c) s') $$ [Hh HSI]
    · isplitl [Hh]
      · iexact Hh
      · iexact HSI
    icases Hr with ⟨%h, HSI⟩
    imodintro
    isplitr
    · ipureintro
      exact ⟨⟨(h (Proc.devRef .tc main_arg0) (Finset.mem_filter.mpr ⟨StableHlo.devRef_mem_tcRefs main_arg0, by decide⟩)).trans ((V3_of' m c main_arg0 (by decide)).trans (V2_arg0 m c)),
        (h (Proc.devRef .tc main_arg1) (Finset.mem_filter.mpr ⟨StableHlo.devRef_mem_tcRefs main_arg1, by decide⟩)).trans ((V3_of' m c main_arg1 (by decide)).trans (V2_arg1 m c)),
        (h (Proc.devRef .tc main_v9) (Finset.mem_filter.mpr ⟨StableHlo.devRef_mem_tcRefs main_v9, by decide⟩)).trans (V3_v9 m c)⟩, by simpa using hb⟩
    · iexact HSI

end Cert.KernelIdeal.A2A
-- ==== Proof.Value.lean ====
/- The value each device ends with, at the ideal instance: its columns of the reference's array. -/
module

public import proofs.«01_k».proof.Proof.KernelIdeal.Launch
public import proofs.«01_k».proof.Proof.Gen.ReferenceIdeal.Run
public import Idealize.ShloMosaic.Lib.Layout
public import Idealize.ShloMosaic.Lib.Pointwise

@[expose] public section

noncomputable section

namespace Cert.Own

open Idealize.ShloMosaic Idealize.ShloMosaic.TcCoe Idealize.SL.Sem

/-- What the reference computes of the whole arrays. -/
def whole (X : (⟨2, ![8192, 8192]⟩ : Shape).Idx → EReal) (W : (⟨2, ![8192, 4096]⟩ : Shape).Idx → EReal) :
    (⟨2, ![8192, 4096]⟩ : Shape).Idx → EReal := fun i => max (∑ k : Fin 8192, X (ix2 (i 0) k) * W (ix2 k (i 1))) 0

/-- The reference's operations compute it, -/
theorem whole_ref (X : FVec Ideal Cert.ReferenceIdeal.S8192x8192 .bf16) (W : FVec Ideal Cert.ReferenceIdeal.S8192x4096 .bf16) :
    truncf .bf16 (maximumf (Host.dotGeneral Cert.ReferenceIdeal.dot_S8192x8192_S8192x4096_S8192x4096_1_0_0_1_n_n none X W)
      (broadcastInDim Cert.ReferenceIdeal.S8192x4096 ![] Cert.ReferenceIdeal.Gen.bcast_S_S8192x4096 (constant Cert.ReferenceIdeal.S_ .f32 0x00000000#32)))
      Cert.ReferenceIdeal.Gen.bitsLt_bf16_f32 = whole X W := by
  funext i
  unfold whole
  pointwise

/-- and a turn of the kernel the same of its block of rows and its block of columns. -/
theorem tile_apply (x : FVec Ideal Cert.KernelIdeal.S512x8192 .bf16) (w : FVec Ideal Cert.KernelIdeal.S8192x256 .bf16) (i : Cert.KernelIdeal.S512x256.Idx) :
    Cert.KernelIdeal.Gen.k0_pay1 (F := Ideal) x w i = max (∑ k : Fin 8192, x (ix2 (i 0) k) * w (ix2 k (i 1))) (0 : EReal) := by
  unfold Cert.KernelIdeal.Gen.k0_pay1
  pointwise

/-- Rows from every device and columns of its own: what device c ends with is its block of the reference's columns. -/
theorem result_block (m : (ℓ : Loc Cert.KernelIdeal.nD Cert.KernelIdeal.τ Cert.KernelIdeal.sig) → Buf (Elt Ideal) ℓ)
    (X : FVec Ideal Cert.ReferenceIdeal.S8192x8192 .bf16) (W : FVec Ideal Cert.ReferenceIdeal.S8192x4096 .bf16)
    (hX : ∀ c : Dev Cert.KernelIdeal.nD, m ((c.tc : Thread Cert.KernelIdeal.nD Cert.KernelIdeal.τ).loc Cert.KernelIdeal.main_arg0)
      = Layout.block ⟨2, ![512, 8192]⟩ ⟨2, ![8192, 8192]⟩ 0 16 c X)
    (hW : ∀ c : Dev Cert.KernelIdeal.nD, m ((c.tc : Thread Cert.KernelIdeal.nD Cert.KernelIdeal.τ).loc Cert.KernelIdeal.main_arg1) = W)
    (c : Dev Cert.KernelIdeal.nD) :
    Cert.KernelIdeal.A2A.result (F := Ideal) m c = Layout.block ⟨2, ![8192, 256]⟩ ⟨2, ![8192, 4096]⟩ 1 16 c (whole X W) := by
  funext i
  have h0 : (i 0).val < 8192 := (i 0).isLt
  rw [Layout.block_apply]
  show Cert.KernelIdeal.Gen.k0_pay1 (F := Ideal) (m (((Cert.KernelIdeal.A2A.rowDev i).tc : Thread Cert.KernelIdeal.nD Cert.KernelIdeal.τ).loc Cert.KernelIdeal.main_arg0))
    (Cert.KernelIdeal.A2A.wblk (m (((Cert.KernelIdeal.A2A.rowDev i).tc : Thread Cert.KernelIdeal.nD Cert.KernelIdeal.τ).loc Cert.KernelIdeal.main_arg1)) c) _ = _
  rw [tile_apply, hX, hW]
  unfold whole
  refine congrArg (max · (0 : EReal)) (Finset.sum_congr rfl fun k _ => ?_)
  refine congrArg₂ (· * ·) (congrArg X ?_) (congrArg W ?_)
  · funext a
    match a with
    | 0 => exact Fin.ext (by show (i 0).val / 512 * 512 + (i 0).val % 512 = (i 0).val; omega)
    | 1 => rfl
  · funext a
    match a with
    | 0 => rfl
    | 1 => rfl

end Cert.Own

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

theorem frame_Kernel : Cert.quiescent_Kernel := fun m g _ =>
  (θ_run Cert.Kernel.defs _ _).mono (fun _ h => ⟨fun c => ⟨(h.1 c).1, (h.1 c).2.1⟩, h.2⟩) (Cert.Kernel.A2A.run_main m g)

theorem frame_KernelIdeal : Cert.quiescent_KernelIdeal := fun m g _ =>
  (θ_run Cert.KernelIdeal.defs _ _).mono (fun _ h => ⟨fun c => ⟨(h.1 c).1, (h.1 c).2.1⟩, h.2⟩) (Cert.KernelIdeal.A2A.run_main m g)

theorem frame_ReferenceIdeal : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

theorem algebraic : Cert.algebraic_KernelIdeal_ReferenceIdeal := fun m g m' g' _ hm =>
  ⟨Cert.Own.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨((h.1 c).2.2).trans (Cert.Own.result_block m _ _ (fun c => (hm c).1) (fun c => (hm c).2) c), (h.1 c).1, (h.1 c).2.1⟩) (Cert.KernelIdeal.A2A.run_main m g),
    (θ_run Cert.ReferenceIdeal.defs _ _).mono (fun _ h => ⟨(h 0).1.trans (Cert.Own.whole_ref _ _), (h 0).2⟩) (Cert.ReferenceIdeal.Value.run m' g')⟩

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
